-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x6144x3584 : Shape := ⟨3, ![4, 6144, 3584]⟩
abbrev S16x3584x128 : Shape := ⟨3, ![16, 3584, 128]⟩
abbrev S16x28x1 : Shape := ⟨3, ![16, 28, 1]⟩
abbrev S_ : Shape := ⟨0, ![]⟩

class Facts : Prop where
  bitsLt_bf16_f32 : FTy.bits .bf16 < FTy.bits .f32
  bcast_S_S4x6144x3584 : S_.BroadcastsInDim S4x6144x3584 (![] : Fin 0 → Fin S4x6144x3584.rank)

variable [Facts]

def fn {F : FTy → Type} [FloatOps F] (main_arg0 : FVec F S4x6144x3584 .bf16) (main_arg1 : FVec F S16x3584x128 .fp8e4m3) (main_arg2 : FVec F S16x28x1 .f32) : IVec S4x6144x3584 1 :=
  let main_v0 : FVec F S4x6144x3584 .f32 := (extf .f32 · bitsLt_bf16_f32) main_arg0
  let main_v1 : FVec F S4x6144x3584 .f32 := Host.absf main_v0
  let main_cst : FVec F S_ .f32 := constant S_ .f32 0x7F7F0000#32
  let main_v2 : FVec F S4x6144x3584 .f32 := broadcastInDim S4x6144x3584 ![] bcast_S_S4x6144x3584 main_cst
  let main_v3 : IVec S4x6144x3584 1 := cmpf .ole main_v1 main_v2
  main_v3
-- ==== Kernel.lean ====
abbrev S4x6144x3584 : Shape := ⟨3, ![4, 6144, 3584]⟩
abbrev S16x3584x128 : Shape := ⟨3, ![16, 3584, 128]⟩
abbrev S16x28x1 : Shape := ⟨3, ![16, 28, 1]⟩
abbrev S24576x3584 : Shape := ⟨2, ![24576, 3584]⟩
abbrev S24576x16x128 : Shape := ⟨3, ![24576, 16, 128]⟩
abbrev S24576x28 : Shape := ⟨2, ![24576, 28]⟩
abbrev S512x3584 : Shape := ⟨2, ![512, 3584]⟩
abbrev S512x16x128 : Shape := ⟨3, ![512, 16, 128]⟩
abbrev S512x28 : Shape := ⟨2, ![512, 28]⟩
abbrev S3584x2048 : Shape := ⟨2, ![3584, 2048]⟩
abbrev S1x1x1 : Shape := ⟨3, ![1, 1, 1]⟩
abbrev S1x1 : Shape := ⟨2, ![1, 1]⟩
abbrev S1x128x128 : Shape := ⟨3, ![1, 128, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S3584x256 : Shape := ⟨2, ![3584, 256]⟩
abbrev S512x256 : Shape := ⟨2, ![512, 256]⟩
abbrev S512x8x128 : Shape := ⟨3, ![512, 8, 128]⟩
abbrev S4096x128 : Shape := ⟨2, ![4096, 128]⟩
abbrev S512x2x128 : Shape := ⟨3, ![512, 2, 128]⟩
abbrev S512x1x128 : Shape := ⟨3, ![512, 1, 128]⟩

abbrev nBuf : Space → Nat
  | .hbm => 7
  | .vmem => 12
  | .smem => 0
  | _ => 0

abbrev bufTy : (tb : Table) → Fin (tcTables nBuf tb) → BufTy
  | .hbm, ⟨0, _⟩ => ⟨S4x6144x3584, .bf16⟩
  | .hbm, ⟨1, _⟩ => ⟨S16x3584x128, .fp8e4m3⟩
  | .hbm, ⟨2, _⟩ => ⟨S16x28x1, .f32⟩
  | .hbm, ⟨3, _⟩ => ⟨S24576x3584, .bf16⟩
  | .hbm, ⟨4, _⟩ => ⟨S24576x16x128, .bf16⟩
  | .hbm, ⟨5, _⟩ => ⟨S24576x3584, .fp8e4m3⟩
  | .hbm, ⟨6, _⟩ => ⟨S24576x28, .f32⟩
  | .local _ .vmem, ⟨0, _⟩ => ⟨S512x3584, .bf16⟩
  | .local _ .vmem, ⟨1, _⟩ => ⟨S512x3584, .bf16⟩
  | .local _ .vmem, ⟨2, _⟩ => ⟨S16x3584x128, .fp8e4m3⟩
  | .local _ .vmem, ⟨3, _⟩ => ⟨S16x28x1, .f32⟩
  | .local _ .vmem, ⟨4, _⟩ => ⟨S512x16x128, .bf16⟩
  | .local _ .vmem, ⟨5, _⟩ => ⟨S512x16x128, .bf16⟩
  | .local _ .vmem, ⟨6, _⟩ => ⟨S512x3584, .fp8e4m3⟩
  | .local _ .vmem, ⟨7, _⟩ => ⟨S512x3584, .fp8e4m3⟩
  | .local _ .vmem, ⟨8, _⟩ => ⟨S512x28, .f32⟩
  | .local _ .vmem, ⟨9, _⟩ => ⟨S512x28, .f32⟩
  | .local _ .vmem, ⟨10, _⟩ => ⟨S3584x2048, .bf16⟩
  | .local _ .vmem, ⟨11, _⟩ => ⟨S512x3584, .bf16⟩
  | _, _ => ⟨S4x6144x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x3584x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x28x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3584 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x28 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S4x6144x3584 : Shape := ⟨3, ![4, 6144, 3584]⟩
abbrev S16x3584x128 : Shape := ⟨3, ![16, 3584, 128]⟩
abbrev S16x28x1 : Shape := ⟨3, ![16, 28, 1]⟩
abbrev S24576x3584 : Shape := ⟨2, ![24576, 3584]⟩
abbrev S24576x16x128 : Shape := ⟨3, ![24576, 16, 128]⟩
abbrev S24576x28 : Shape := ⟨2, ![24576, 28]⟩
abbrev S24576x28x128 : Shape := ⟨3, ![24576, 28, 128]⟩
abbrev S24576x28x1 : Shape := ⟨3, ![24576, 28, 1]⟩
abbrev S16x28x128x128 : Shape := ⟨4, ![16, 28, 128, 128]⟩
abbrev S16x28x1x1 : Shape := ⟨4, ![16, 28, 1, 1]⟩
abbrev S3584x16x128 : Shape := ⟨3, ![3584, 16, 128]⟩
abbrev S3584x2048 : Shape := ⟨2, ![3584, 2048]⟩
abbrev S24576x2048 : Shape := ⟨2, ![24576, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4x6144x3584, .bf16⟩
  | .hbm, ⟨1, _⟩ => ⟨S16x3584x128, .fp8e4m3⟩
  | .hbm, ⟨2, _⟩ => ⟨S16x28x1, .f32⟩
  | .hbm, ⟨3, _⟩ => ⟨S24576x3584, .bf16⟩
  | .hbm, ⟨4, _⟩ => ⟨S24576x16x128, .bf16⟩
  | .hbm, ⟨5, _⟩ => ⟨S24576x3584, .fp8e4m3⟩
  | .hbm, ⟨6, _⟩ => ⟨S24576x28, .f32⟩
  | .local _ .vmem, ⟨0, _⟩ => ⟨S24576x3584, .bf16⟩
  | .local _ .vmem, ⟨1, _⟩ => ⟨S16x3584x128, .fp8e4m3⟩
  | .local _ .vmem, ⟨2, _⟩ => ⟨S16x28x1, .f32⟩
  | .local _ .vmem, ⟨3, _⟩ => ⟨S24576x16x128, .bf16⟩
  | .local _ .vmem, ⟨4, _⟩ => ⟨S24576x3584, .fp8e4m3⟩
  | .local _ .vmem, ⟨5, _⟩ => ⟨S24576x28, .f32⟩
  | _, _ => ⟨S4x6144x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3584x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x28x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RefRun.lean ====
/-
  The reference's run, block by block: what its one grid point writes back to each output window, and each output
  array after the run. After the generated value module of the program, without its closed form of the scales' window.
-/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S24576x16x128.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S24576x3584.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S24576x28.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

end Cert.ReferenceIdeal.Value

end
-- ==== Proof.Exponent.lean ====
/-
  The power-of-two scale of a group, as the kernel finds it and as the reference states it, over the extended reals.

  The kernel finds the exponent field of `v = amax / 448` by a binary search over the eight bits of the field: it keeps
  the largest `n` whose threshold, the value of the word `n <<< 23`, is at most `v`. The reference takes
  `⌊log v / log 2⌋ + 1`, and `0` below `2 ^ -126`. Both give the same scale and the same inverse scale for every real
  `v` with `0 ≤ v < 2 ^ 126`.
-/
module

public import Idealize.ShloMosaic.Lib.Pointwise

@[expose] public section

noncomputable section

namespace Cert.Quant

open Idealize.ShloMosaic

section Words
variable {F : FTy → Type} [FloatOps F]

/-- One step of the search: the field with the bit `s` set when the threshold of that field is at most `v`. -/
def step (v : F .f32) (f s : BitVec 32) : BitVec 32 :=
  Scalar.select (FloatOps.cmpf .oge v (FloatOps.ofBits .f32 (IntOp.shli .vector (IntOp.addi f s) 23#32))) (IntOp.addi f s) f

/-- The eight steps, from the high bit of the field to the low one. -/
def field (v : F .f32) : BitVec 32 :=
  step v (step v (step v (step v (step v (step v (step v (step v 0#32 128#32) 64#32) 32#32) 16#32) 8#32) 4#32) 2#32) 1#32

/-- The exponent of the scale: `0` for a field of zero, else the field less 126. -/
def expo (v : F .f32) : BitVec 32 :=
  Scalar.select (IntOp.cmpi .eq (field v) 0#32) 0#32 (IntOp.subi (field v) 126#32)

/-- The scale: the float whose field is 127 more than the exponent. -/
def kscale (v : F .f32) : F .f32 := FloatOps.ofBits .f32 (IntOp.shli .vector (IntOp.addi 127#32 (expo v)) 23#32)

/-- The inverse scale: the float whose field is 127 less the exponent. -/
def kinv (v : F .f32) : F .f32 := FloatOps.ofBits .f32 (IntOp.shli .vector (IntOp.subi 127#32 (expo v)) 23#32)

/-- The exponent as the reference states it. -/
def rexpo (v : F .f32) : F .f32 :=
  Scalar.select (FloatOps.cmpf .olt v (FloatOps.ofBits .f32 0x00800000#32)) (FloatOps.ofBits .f32 0x00000000#32)
    (FloatOps.addf (FloatOps.floor (FloatOps.divf (FloatOps.log v) (FloatOps.log (FloatOps.ofBits .f32 0x40000000#32))))
      (FloatOps.ofBits .f32 0x3F800000#32))

/-- The reference's scale. -/
def rscale (v : F .f32) : F .f32 := FloatOps.exp2 (rexpo v)

/-- The reference's inverse scale. -/
def rinv (v : F .f32) : F .f32 := FloatOps.exp2 (FloatOps.subf (FloatOps.ofBits .f32 0x00000000#32) (rexpo v))

end Words

/-! ## The value of a word that holds an exponent field alone -/

theorem shl_ofNat (n : ℕ) : IntOp.shli .vector (BitVec.ofNat 32 n) 23#32 = BitVec.ofNat 32 n <<< 23 := rfl

theorem field_value (n : ℕ) :
    ((2 ^ 23 + 0 : ℕ) : ℝ) * (2 : ℝ) ^ ((n : ℤ) - (2 ^ (8 - 1) - 1) - (23 : ℕ)) = (2 : ℝ) ^ ((n : ℤ) - 127) := by
  have : ((n : ℤ) - (2 ^ (8 - 1) - 1) - (23 : ℕ)) = (n : ℤ) - 127 + (-23) := by norm_num; ring
  rw [this, zpow_add₀ (by norm_num : (2 : ℝ) ≠ 0)]
  norm_num
  ring

/-- A normal field `n` alone is `2 ^ (n - 127)`. -/
theorem ofBits_field (n : ℕ) (h0 : 0 < n) (h : n < 255) :
    Ideal.ofBits .f32 (BitVec.ofNat 32 n <<< 23) = (((2 : ℝ) ^ ((n : ℤ) - 127) : ℝ) : EReal) := by
  have key : ∀ k : Fin 256, (BitVec.extractLsb' 31 1 (BitVec.ofNat 32 k.val <<< 23) == 1#1) = false
      ∧ (BitVec.extractLsb' 23 8 (BitVec.ofNat 32 k.val <<< 23)).toNat = k.val
      ∧ (BitVec.extractLsb' 0 23 (BitVec.ofNat 32 k.val <<< 23)).toNat = 0 := by decide +kernel
  obtain ⟨k1, k2, k3⟩ := key ⟨n, by omega⟩
  simp only at k1 k2 k3
  show Ideal.ieee 8 23 _ = _
  unfold Ideal.ieee
  simp only [k1, k2, k3, Nat.reduceAdd]
  rw [if_neg (by omega), if_neg (by omega)]
  rw [if_neg (by simp), one_mul, field_value n]

/-- The field of all ones alone is plus infinity. -/
theorem ofBits_field_top : Ideal.ofBits .f32 (BitVec.ofNat 32 255 <<< 23) = ⊤ := by
  simp [Ideal.ofBits, Ideal.ieee]

/-! ## The search -/

/-- `k` is the field of `v`: the thresholds at most `v` are those of the fields from 1 to `k`. -/
def IsField (v : EReal) (k : ℕ) : Prop :=
  k < 255 ∧ ∀ n : ℕ, 0 < n → n < 256 → (Ideal.ofBits .f32 (BitVec.ofNat 32 n <<< 23) ≤ v ↔ n ≤ k)

theorem step_eq {v : EReal} {k : ℕ} (hk : IsField v k) (f s : ℕ) (hs : 0 < s) (h1 : f ≤ k) (h2 : k < f + 2 * s)
    (h3 : f + 2 * s ≤ 256) :
    ∃ g : ℕ, step (F := Ideal) v (BitVec.ofNat 32 f) (BitVec.ofNat 32 s) = BitVec.ofNat 32 g ∧ g ≤ k ∧ k < g + s ∧ g + s ≤ 256 := by
  have hadd : IntOp.addi (BitVec.ofNat 32 f) (BitVec.ofNat 32 s) = BitVec.ofNat 32 (f + s) := by
    simp [IntOp.addi, BitVec.ofNat_add]
  have hiff := hk.2 (f + s) (by omega) (by omega)
  unfold step
  rw [hadd, shl_ofNat]
  show ∃ g, Scalar.select (BitVec.ofBool (decide (Ideal.ofBits .f32 (BitVec.ofNat 32 (f + s) <<< 23) ≤ v))) _ _ = _ ∧ _
  by_cases hc : f + s ≤ k
  · refine ⟨f + s, ?_, hc, by omega, by omega⟩
    rw [decide_eq_true (hiff.mpr hc)]; rfl
  · refine ⟨f, ?_, h1, by omega, by omega⟩
    rw [decide_eq_false (fun h => hc (hiff.mp h))]; rfl

/-- The search finds the field. -/
theorem field_eq {v : EReal} {k : ℕ} (hk : IsField v k) : field (F := Ideal) v = BitVec.ofNat 32 k := by
  have hlt := hk.1
  obtain ⟨g1, e1, a1, b1, c1⟩ := step_eq hk 0 128 (by omega) (by omega) (by omega) (by omega)
  obtain ⟨g2, e2, a2, b2, c2⟩ := step_eq hk g1 64 (by omega) (by omega) (by omega) (by omega)
  obtain ⟨g3, e3, a3, b3, c3⟩ := step_eq hk g2 32 (by omega) (by omega) (by omega) (by omega)
  obtain ⟨g4, e4, a4, b4, c4⟩ := step_eq hk g3 16 (by omega) (by omega) (by omega) (by omega)
  obtain ⟨g5, e5, a5, b5, c5⟩ := step_eq hk g4 8 (by omega) (by omega) (by omega) (by omega)
  obtain ⟨g6, e6, a6, b6, c6⟩ := step_eq hk g5 4 (by omega) (by omega) (by omega) (by omega)
  obtain ⟨g7, e7, a7, b7, c7⟩ := step_eq hk g6 2 (by omega) (by omega) (by omega) (by omega)
  obtain ⟨g8, e8, a8, b8, c8⟩ := step_eq hk g7 1 (by omega) (by omega) (by omega) (by omega)
  obtain rfl : g8 = k := by omega
  unfold field
  rw [e1, e2, e3, e4, e5, e6, e7, e8]

/-- Every real `v` with `0 ≤ v < 2 ^ 126` has a field: `0` below `2 ^ -126`, else `⌊log₂ v⌋ + 127`. -/
theorem exists_field {r : ℝ} (h1 : r < (2 : ℝ) ^ (126 : ℤ)) :
    (r < (2 : ℝ) ^ (-126 : ℤ) ∧ IsField (r : EReal) 0) ∨
    ((2 : ℝ) ^ (-126 : ℤ) ≤ r ∧ ∃ e : ℤ, -126 ≤ e ∧ e < 126 ∧ (2 : ℝ) ^ e ≤ r ∧ r < (2 : ℝ) ^ (e + 1) ∧ IsField (r : EReal) (e + 127).toNat) := by
  have mono : ∀ a b : ℤ, (2 : ℝ) ^ a ≤ (2 : ℝ) ^ b ↔ a ≤ b := fun a b => zpow_le_zpow_iff_right₀ (by norm_num)
  have smono : ∀ a b : ℤ, (2 : ℝ) ^ a < (2 : ℝ) ^ b ↔ a < b := fun a b => zpow_lt_zpow_iff_right₀ (by norm_num)
  have top : ¬ (⊤ : EReal) ≤ (r : EReal) := by simp
  by_cases hr : r < (2 : ℝ) ^ (-126 : ℤ)
  · refine Or.inl ⟨hr, by omega, fun n h0 hn => ?_⟩
    rcases Nat.lt_or_ge n 255 with h | h
    · rw [ofBits_field n h0 h, EReal.coe_le_coe_iff]
      constructor
      · intro hle
        have := (smono _ _).mp (lt_of_le_of_lt hle hr)
        omega
      · intro hle; omega
    · obtain rfl : n = 255 := by omega
      rw [ofBits_field_top]
      exact ⟨fun h => absurd h top, fun h => by omega⟩
  · rw [not_lt] at hr
    have hpos : 0 < r := lt_of_lt_of_le (by positivity) hr
    obtain ⟨e, he1, he2⟩ := exists_mem_Ico_zpow (x := r) (y := 2) hpos (by norm_num)
    have l1 : -126 ≤ e := by have := (smono _ _).mp (lt_of_le_of_lt hr he2); omega
    have l2 : e < 126 := (smono _ _).mp (lt_of_le_of_lt he1 h1)
    refine Or.inr ⟨hr, e, l1, l2, he1, he2, by omega, fun n h0 hn => ?_⟩
    rcases Nat.lt_or_ge n 255 with h | h
    · rw [ofBits_field n h0 h, EReal.coe_le_coe_iff]
      constructor
      · intro hle
        have := (smono _ _).mp (lt_of_le_of_lt hle he2)
        omega
      · intro hle
        exact le_trans ((mono _ _).mpr (by omega)) he1
    · obtain rfl : n = 255 := by omega
      rw [ofBits_field_top]
      exact ⟨fun h => absurd h top, fun h => by omega⟩

/-! ## The kernel's scales are powers of two -/

theorem kscale_kinv_zero {v : EReal} (hk : IsField v 0) : kscale (F := Ideal) v = 1 ∧ kinv (F := Ideal) v = 1 := by
  have he : expo (F := Ideal) v = 0#32 := by unfold expo; rw [field_eq hk]; rfl
  unfold kscale kinv
  rw [he]
  constructor
  · show Ideal.ofBits .f32 (BitVec.ofNat 32 127 <<< 23) = 1
    rw [ofBits_field 127 (by omega) (by omega)]; norm_num
  · show Ideal.ofBits .f32 (BitVec.ofNat 32 127 <<< 23) = 1
    rw [ofBits_field 127 (by omega) (by omega)]; norm_num

theorem kscale_kinv_pos {v : EReal} {e : ℤ} (h1 : -126 ≤ e) (h2 : e < 126) (hk : IsField v (e + 127).toNat) :
    kscale (F := Ideal) v = (((2 : ℝ) ^ (e + 1) : ℝ) : EReal) ∧ kinv (F := Ideal) v = (((2 : ℝ) ^ (-(e + 1)) : ℝ) : EReal) := by
  have key : ∀ k : Fin 253, 0 < k.val →
      IntOp.addi 127#32 (Scalar.select (IntOp.cmpi .eq (BitVec.ofNat 32 k.val) 0#32) 0#32 (IntOp.subi (BitVec.ofNat 32 k.val) 126#32))
        = BitVec.ofNat 32 (k.val + 1)
      ∧ IntOp.subi 127#32 (Scalar.select (IntOp.cmpi .eq (BitVec.ofNat 32 k.val) 0#32) 0#32 (IntOp.subi (BitVec.ofNat 32 k.val) 126#32))
        = BitVec.ofNat 32 (253 - k.val) := by decide +kernel
  obtain ⟨n, rfl⟩ : ∃ n : ℕ, e = (n : ℤ) - 127 := ⟨(e + 127).toNat, by omega⟩
  rw [show ((n : ℤ) - 127 + 127).toNat = n by omega] at hk
  obtain ⟨k1, k2⟩ := key ⟨n, by omega⟩ (by show 0 < n; omega)
  simp only at k1 k2
  unfold kscale kinv expo
  rw [field_eq hk, k1, k2, shl_ofNat, shl_ofNat]
  constructor
  · refine (ofBits_field (n + 1) (by omega) (by omega)).trans ?_
    rw [show (((n + 1 : ℕ) : ℤ) - 127) = (n : ℤ) - 127 + 1 by omega]
  · refine (ofBits_field (253 - n) (by omega) (by omega)).trans ?_
    rw [show (((253 - n : ℕ) : ℤ) - 127) = -((n : ℤ) - 127 + 1) by omega]

/-! ## The reference's scales are the same powers of two -/

theorem ofBits_tiny : Ideal.ofBits .f32 0x00800000#32 = (((2 : ℝ) ^ (-126 : ℤ) : ℝ) : EReal) := by
  have := ofBits_field 1 (by omega) (by omega)
  rw [show (BitVec.ofNat 32 1 <<< 23) = 0x00800000#32 from rfl] at this
  rw [this]; norm_num

theorem ofBits_two : Ideal.ofBits .f32 0x40000000#32 = ((2 : ℝ) : EReal) := by
  have := ofBits_field 128 (by omega) (by omega)
  rw [show (BitVec.ofNat 32 128 <<< 23) = 0x40000000#32 from rfl] at this
  rw [this]; norm_num

theorem exp2_int (e : ℤ) : Ideal.exp2 (((e : ℝ)) : EReal) = (((2 : ℝ) ^ e : ℝ) : EReal) := by
  show ((Real.rpow 2 (e : ℝ) : ℝ) : EReal) = _
  rw [show Real.rpow 2 (e : ℝ) = (2 : ℝ) ^ (e : ℝ) from rfl, Real.rpow_intCast]

theorem rexpo_tiny {r : ℝ} (h : r < (2 : ℝ) ^ (-126 : ℤ)) : rexpo (F := Ideal) (r : EReal) = ((0 : ℤ) : ℝ) := by
  unfold rexpo
  show Scalar.select (BitVec.ofBool (decide ((r : EReal) < Ideal.ofBits .f32 0x00800000#32))) (Ideal.ofBits .f32 0x00000000#32) _ = _
  rw [ofBits_tiny, decide_eq_true (EReal.coe_lt_coe_iff.mpr h), Ideal.ofBits_zero_f32]
  simp [Scalar.select]

theorem rexpo_normal {r : ℝ} {e : ℤ} (h : (2 : ℝ) ^ (-126 : ℤ) ≤ r) (h1 : (2 : ℝ) ^ e ≤ r) (h2 : r < (2 : ℝ) ^ (e + 1)) :
    rexpo (F := Ideal) (r : EReal) = ((((e + 1 : ℤ) : ℝ)) : EReal) := by
  have hpos : 0 < r := lt_of_lt_of_le (by positivity) h
  have hl2 : 0 < Real.log 2 := Real.log_pos (by norm_num)
  unfold rexpo
  show Scalar.select (BitVec.ofBool (decide ((r : EReal) < Ideal.ofBits .f32 0x00800000#32))) _
    (Ideal.liftRound Int.floor (Ideal.div (Ideal.log (r : EReal)) (Ideal.log (Ideal.ofBits .f32 0x40000000#32))) + Ideal.ofBits .f32 0x3F800000#32) = _
  rw [ofBits_tiny, decide_eq_false (by rw [EReal.coe_lt_coe_iff]; exact not_lt.mpr h), ofBits_two, Ideal.ofBits_one_f32]
  show Ideal.liftRound Int.floor (Ideal.div (if r ≤ 0 then ⊥ else (Real.log r : EReal)) (if (2 : ℝ) ≤ 0 then ⊥ else (Real.log 2 : EReal))) + 1 = _
  rw [if_neg (not_le.mpr hpos), if_neg (by norm_num)]
  unfold Ideal.div
  rw [if_neg (by exact_mod_cast hl2.ne'), ← EReal.coe_inv, ← EReal.coe_mul]
  show (((⌊Real.log r * (Real.log 2)⁻¹⌋ : ℤ) : ℝ) : EReal) + 1 = _
  have hf : ⌊Real.log r * (Real.log 2)⁻¹⌋ = e := by
    rw [Int.floor_eq_iff, ← div_eq_mul_inv, le_div_iff₀ hl2, div_lt_iff₀ hl2]
    have l1 := Real.log_le_log (by positivity) h1
    have l2 := Real.log_lt_log hpos h2
    rw [Real.log_zpow] at l1 l2
    push_cast at l2
    exact ⟨l1, l2⟩
  rw [hf]
  push_cast
  rfl

theorem rscale_rinv_of {v : EReal} {e : ℤ} (h : rexpo (F := Ideal) v = (((e : ℤ) : ℝ) : EReal)) :
    rscale (F := Ideal) v = (((2 : ℝ) ^ e : ℝ) : EReal) ∧ rinv (F := Ideal) v = (((2 : ℝ) ^ (-e) : ℝ) : EReal) := by
  unfold rscale rinv
  rw [h]
  refine ⟨exp2_int e, ?_⟩
  show Ideal.exp2 (Ideal.ofBits .f32 0x00000000#32 - ((e : ℝ) : EReal)) = _
  rw [Ideal.ofBits_zero_f32, zero_sub, ← EReal.coe_neg, ← Int.cast_neg]
  exact exp2_int (-e)

/-- The kernel's scale and inverse scale are the reference's, at every real below `2 ^ 126`. -/
theorem scales_eq {r : ℝ} (h1 : r < (2 : ℝ) ^ (126 : ℤ)) :
    kscale (F := Ideal) (r : EReal) = rscale (F := Ideal) (r : EReal) ∧ kinv (F := Ideal) (r : EReal) = rinv (F := Ideal) (r : EReal) := by
  rcases exists_field h1 with ⟨h, hk⟩ | ⟨h, e, l1, l2, l3, l4, hk⟩
  · obtain ⟨a, b⟩ := kscale_kinv_zero hk
    obtain ⟨c, d⟩ := rscale_rinv_of (rexpo_tiny h)
    rw [a, b, c, d]; norm_num
  · obtain ⟨a, b⟩ := kscale_kinv_pos l1 l2 hk
    obtain ⟨c, d⟩ := rscale_rinv_of (rexpo_normal h l3 l4)
    rw [a, b, c, d]
    exact ⟨rfl, rfl⟩

end Cert.Quant

end
-- ==== Proof.Rows.lean ====
/-
  The quantiser and the product on one row of activations, over the extended reals. `gval` is what the scale of a group
  of 128 values is found from, `code` and `deq` a value's code and the code times its scale, for a choice of the two
  functions that give a scale and its inverse, and `proj` is one output.
-/
module

public import proofs.«01_k».proof.Proof.Exponent

@[expose] public section

noncomputable section

namespace Cert.Quant

open Idealize.ShloMosaic

/-- The largest magnitude of 128 values, times the constant nearest 1/448. -/
def gval (u : Fin 128 → EReal) : EReal :=
  Finset.fold max (Ideal.ofBits FTy.f32 0xFF800000#32) (fun k : Fin 128 => max (u k) (-(u k))) Finset.univ * Ideal.ofBits FTy.f32 0x3B124925#32

/-- Clipped to the range of the codes. -/
def clip (y : EReal) : EReal := min (Ideal.ofBits FTy.f32 0x43E00000#32) (max (Ideal.ofBits FTy.f32 0xC3E00000#32) y)

/-- A row's group. -/
def grp (row : Fin 3584 → EReal) (g : Fin 28) : Fin 128 → EReal := fun k => row ⟨g.val * 128 + k.val, by omega⟩

/-- The group of a column. -/
def gof (j : Fin 3584) : Fin 28 := ⟨j.val / 128, by omega⟩

/-- The value of a column's code. -/
def code (inv : EReal → EReal) (row : Fin 3584 → EReal) (j : Fin 3584) : EReal := clip (row j * inv (gval (grp row (gof j))))

/-- A column's code times its scale. -/
def deq (scale inv : EReal → EReal) (row : Fin 3584 → EReal) (j : Fin 3584) : EReal := code inv row j * scale (gval (grp row (gof j)))

/-- One output: the row of codes times scales against one column of weights times scales. -/
def proj (scale inv : EReal → EReal) (row : Fin 3584 → EReal) (w : Fin 3584 → EReal) (ws : Fin 28 → EReal) : EReal :=
  ∑ k : Fin 3584, deq scale inv row k * (w k * ws (gof k))

/-! ## The two choices agree on a row whose groups are in range -/

section Agree
variable {row : Fin 3584 → EReal} (h : ∀ g, ∃ r : ℝ, gval (grp row g) = (r : EReal) ∧ r < (2 : ℝ) ^ (126 : ℤ))
include h

theorem scale_agree (g : Fin 28) : kscale (F := Ideal) (gval (grp row g)) = rscale (F := Ideal) (gval (grp row g)) := by
  obtain ⟨r, e, hr⟩ := h g
  rw [e]; exact (scales_eq hr).1

theorem inv_agree (g : Fin 28) : kinv (F := Ideal) (gval (grp row g)) = rinv (F := Ideal) (gval (grp row g)) := by
  obtain ⟨r, e, hr⟩ := h g
  rw [e]; exact (scales_eq hr).2

theorem code_agree (j : Fin 3584) : code (kinv (F := Ideal)) row j = code (rinv (F := Ideal)) row j := by
  unfold code; rw [inv_agree h]

theorem deq_agree (j : Fin 3584) :
    deq (kscale (F := Ideal)) (kinv (F := Ideal)) row j = deq (rscale (F := Ideal)) (rinv (F := Ideal)) row j := by
  unfold deq; rw [code_agree h, scale_agree h]

theorem proj_agree (w : Fin 3584 → EReal) (ws : Fin 28 → EReal) :
    proj (kscale (F := Ideal)) (kinv (F := Ideal)) row w ws = proj (rscale (F := Ideal)) (rinv (F := Ideal)) row w ws := by
  unfold proj; exact Finset.sum_congr rfl fun k _ => by rw [deq_agree h]

end Agree

end Cert.Quant

end
-- ==== Proof.Bound.lean ====
/-
  Activations no larger in magnitude than the largest finite bf16 number give every group a scale in the normal range.
-/
module

public import proofs.«01_k».proof.Proof.Rows

@[expose] public section

noncomputable section

namespace Cert.Quant

open Idealize.ShloMosaic

theorem ofBits_max : Ideal.ofBits .f32 0x7F7F0000#32 = ((255 * (2 : ℝ) ^ (120 : ℕ) : ℝ) : EReal) := by
  have e : (16711680 * (2 : ℝ) ^ (104 : ℤ) : ℝ) = 255 * (2 : ℝ) ^ (120 : ℕ) := by norm_num
  rw [← e]
  simp [Ideal.ofBits, Ideal.ieee]

theorem ofBits_inv448 : Ideal.ofBits .f32 0x3B124925#32 = (((9586981 : ℝ) / (2 : ℝ) ^ (32 : ℕ) : ℝ) : EReal) := by
  have e : (9586981 * (2 : ℝ) ^ (-32 : ℤ) : ℝ) = (9586981 : ℝ) / (2 : ℝ) ^ (32 : ℕ) := by norm_num
  rw [← e]
  simp [Ideal.ofBits, Ideal.ieee]

theorem ofBits_bot : Ideal.ofBits .f32 0xFF800000#32 = ⊥ := by
  simp [Ideal.ofBits, Ideal.ieee]

/-- The magnitudes' maximum lies between zero and the bound. -/
theorem gval_real {u : Fin 128 → EReal} (hu : ∀ k, max (u k) (-(u k)) ≤ Ideal.ofBits .f32 0x7F7F0000#32) :
    ∃ r : ℝ, gval u = (r : EReal) ∧ r < (2 : ℝ) ^ (126 : ℤ) := by
  have h1 : Finset.fold max (Ideal.ofBits FTy.f32 0xFF800000#32) (fun k : Fin 128 => max (u k) (-(u k))) Finset.univ
      ≤ ((255 * (2 : ℝ) ^ (120 : ℕ) : ℝ) : EReal) := by
    rw [Finset.fold_max_le, ofBits_bot]
    exact ⟨bot_le, fun k _ => (hu k).trans_eq ofBits_max⟩
  have h0 : (0 : EReal) ≤ Finset.fold max (Ideal.ofBits FTy.f32 0xFF800000#32) (fun k : Fin 128 => max (u k) (-(u k))) Finset.univ := by
    rw [Finset.le_fold_max]
    refine Or.inr ⟨0, Finset.mem_univ _, ?_⟩
    rcases le_total (0 : EReal) (u 0) with h | h
    · exact le_max_of_le_left h
    · exact le_max_of_le_right (by rw [EReal.le_neg]; simpa using h)
  unfold gval
  generalize Finset.fold max (Ideal.ofBits FTy.f32 0xFF800000#32) (fun k : Fin 128 => max (u k) (-(u k))) Finset.univ = a at h0 h1
  lift a to ℝ using ⟨ne_top_of_le_ne_top (EReal.coe_ne_top _) h1, fun h => by rw [h] at h0; exact absurd h0 (by decide)⟩
  rw [ofBits_inv448, ← EReal.coe_mul]
  refine ⟨_, rfl, ?_⟩
  rw [EReal.coe_le_coe_iff] at h1
  calc a * (9586981 / (2 : ℝ) ^ (32 : ℕ)) ≤ (255 * (2 : ℝ) ^ (120 : ℕ)) * (9586981 / (2 : ℝ) ^ (32 : ℕ)) :=
        mul_le_mul_of_nonneg_right h1 (by positivity)
    _ < (2 : ℝ) ^ (126 : ℤ) := by norm_num

end Cert.Quant

end
-- ==== Proof.Pieces.lean ====
/-
  The kernel's stores as families. At a grid point the body stores one block per group of 128 columns into the codes, the
  scales and the working copy of the codes, one block per head and group into the working copy of the weights, and one
  block per pair of heads into the output. Each generated list of pieces is one family of rectangles and payloads, indexed
  by the number of the store, so one lemma reads what the stores leave at any index.
-/
module

public import proofs.«01_k».proof.Proof.Gen.KernelIdeal.Value
public import Idealize.ShloMosaic.Lib.Pipeline.ValueKit.Tiles

@[expose] public section

noncomputable section

namespace Cert.KernelIdeal.Pieces

open Cert.KernelIdeal Cert.KernelIdeal.Gen Idealize.ShloMosaic Idealize.ShloMosaic.TcCoe Idealize.SL.Sem

/-! ## A family of stores -/

section Family
variable {Val : EltTy → Type} {s : Shape} {e : EltTy}

/-- The first `n` stores of a family, the last first: store `k` writes `P k` through the rectangle of sizes `size` at `off k`. -/
def fam {N : ℕ} (off : ℕ → Fin s.rank → ℕ) (size : Fin s.rank → ℕ) (inb : ∀ k, k < N → ∀ a, off k a + size a ≤ s.size a)
    (P : Fin N → (⟨s.rank, size⟩ : Shape).Idx → Val e) : (n : ℕ) → n ≤ N → List (View.Piece Val s e)
  | 0, _ => []
  | n + 1, h => ⟨Rect.unit (s := s) (off n) size (inb n h), P ⟨n, h⟩⟩ :: fam off size inb P n (Nat.le_of_succ_le h)

variable {N : ℕ} {off : ℕ → Fin s.rank → ℕ} {size : Fin s.rank → ℕ} {inb : ∀ k, k < N → ∀ a, off k a + size a ≤ s.size a}
  {P : Fin N → (⟨s.rank, size⟩ : Shape).Idx → Val e}

theorem mem_fam (k : Fin N) : ∀ (n : ℕ) (h : n ≤ N), k.val < n →
    (⟨Rect.unit (s := s) (off k.val) size (inb k.val k.isLt), P k⟩ : View.Piece Val s e) ∈ fam off size inb P n h
  | 0, _, hk => absurd hk (Nat.not_lt_zero _)
  | n + 1, h, hk => by
    rcases Nat.lt_succ_iff_lt_or_eq.mp hk with hlt | heq
    · exact List.mem_cons_of_mem _ (mem_fam k n _ hlt)
    · obtain ⟨k, hk'⟩ := k
      obtain rfl : k = n := heq
      exact List.mem_cons_self

theorem of_mem_fam : ∀ (n : ℕ) (h : n ≤ N) (p : View.Piece Val s e), p ∈ fam off size inb P n h →
    ∃ k : Fin N, p = ⟨Rect.unit (s := s) (off k.val) size (inb k.val k.isLt), P k⟩
  | 0, _, _, hp => absurd hp List.not_mem_nil
  | n + 1, h, p, hp => by
    rcases List.mem_cons.mp hp with rfl | hp
    · exact ⟨⟨n, h⟩, rfl⟩
    · exact of_mem_fam n _ p hp

/-- What the stores of a family leave at an index, when every store writes its block of ONE function `G` and store `k` holds
    the index. -/
theorem canon_fam [∀ e, Nonempty (Val e)] (G : s.Idx → Val e)
    (hG : ∀ (k : Fin N) (x : (⟨s.rank, size⟩ : Shape).Idx), P k x = G ((Rect.unit (s := s) (off k.val) size (inb k.val k.isLt)).emb x))
    (y : s.Idx) (k : Fin N) (x : (⟨s.rank, size⟩ : Shape).Idx) (hx : ∀ a, off k.val a + (x a).val = (y a).val) :
    View.canon (fam off size inb P N le_rfl) y = G y := by
  refine View.canon_apply_of_pieces G _ ?_ y ⟨_, mem_fam k N le_rfl k.isLt, ?_⟩
  · intro p hp x
    obtain ⟨k, rfl⟩ := of_mem_fam N le_rfl p hp
    exact hG k x
  · have : y = (Rect.unit (s := s) (off k.val) size (inb k.val k.isLt)).emb x :=
      funext fun a => Fin.ext (by rw [← hx a]; exact (Rect.idx_unit_val (off k.val) size _ x a).symm)
    rw [this, ← Rect.map_emb_univ]
    exact Finset.mem_map_of_mem _ (Finset.mem_univ x)

end Family

variable {F : FTy → Type} [FloatOps F]

/-! ## The blocks -/

/-- The field of a group's rows. -/
def fieldBlk (x : Vec F S512x128 .bf16) : IVec S512x1 32 := k0_pay454 (k0_pay451 x) (k0_pay452 x) (k0_pay453 x)
/-- Whether it is zero. -/
def zeroBlk (x : Vec F S512x128 .bf16) : IVec S512x1 1 := k0_pay455 (k0_pay451 x) (k0_pay452 x) (k0_pay453 x)
/-- A group's scales. -/
def scaleBlk (x : Vec F S512x128 .bf16) : Vec F S512x1 .f32 := k0_pay457 (F := F) (fieldBlk x) (zeroBlk x)
/-- A group's codes. -/
def codesBlk (x : Vec F S512x128 .bf16) : Vec F S512x128 .fp8e4m3 := k0_pay458 (k0_pay450 x) (fieldBlk x) (zeroBlk x)
/-- A group's codes times its scales. -/
def xbBlk (x : Vec F S512x128 .bf16) : Vec F S512x128 .bf16 := k0_pay459 (k0_pay450 x) (fieldBlk x) (zeroBlk x)
/-- A block of the weights times its scale. -/
def wbBlk (ws : Vec F S1x1x1 .f32) (w : Vec F S1x128x128 .fp8e4m3) : Vec F S128x128 .bf16 := k0_pay2 ws w
/-- The output of two heads. -/
def outBlk (xb : Vec F S512x3584 .bf16) (w : Vec F S3584x256 .bf16) : Vec F S512x2x128 .bf16 := k0_pay737 xb w

/-! ## The rectangles -/

theorem inbCol (k : ℕ) (h : k < 28) : ∀ a, (![0, 128 * k] : Fin 2 → ℕ) a + S512x128.size a ≤ S512x3584.size a := by
  intro a; fin_cases a
  · show 0 + 512 ≤ 512; omega
  · show 128 * k + 128 ≤ 3584; omega
theorem inbScale (k : ℕ) (h : k < 28) : ∀ a, (![0, k] : Fin 2 → ℕ) a + S512x1.size a ≤ S512x28.size a := by
  intro a; fin_cases a
  · show 0 + 512 ≤ 512; omega
  · show k + 1 ≤ 28; omega
theorem inbW (k : ℕ) (h : k < 448) : ∀ a, (![128 * (k % 28), 128 * (k / 28)] : Fin 2 → ℕ) a + S128x128.size a ≤ S3584x2048.size a := by
  intro a; fin_cases a
  · show 128 * (k % 28) + 128 ≤ 3584; omega
  · show 128 * (k / 28) + 128 ≤ 2048; omega
theorem inbWin (k : ℕ) (h : k < 448) : ∀ a, (![k / 28, 128 * (k % 28), 0] : Fin 3 → ℕ) a + S1x128x128.size a ≤ S16x3584x128.size a := by
  intro a; fin_cases a
  · show k / 28 + 1 ≤ 16; omega
  · show 128 * (k % 28) + 128 ≤ 3584; omega
  · show 0 + 128 ≤ 128; omega
theorem inbWs (k : ℕ) (h : k < 448) : ∀ a, (![k / 28, k % 28, 0] : Fin 3 → ℕ) a + S1x1x1.size a ≤ S16x28x1.size a := by
  intro a; fin_cases a
  · show k / 28 + 1 ≤ 16; omega
  · show k % 28 + 1 ≤ 28; omega
  · show 0 + 1 ≤ 1; omega
theorem inbOut (k : ℕ) (h : k < 8) : ∀ a, (![0, 2 * k, 0] : Fin 3 → ℕ) a + S512x2x128.size a ≤ S512x16x128.size a := by
  intro a; fin_cases a
  · show 0 + 512 ≤ 512; omega
  · show 2 * k + 2 ≤ 16; omega
  · show 0 + 128 ≤ 128; omega
theorem inbPair (k : ℕ) (h : k < 8) : ∀ a, (![0, 256 * k] : Fin 2 → ℕ) a + S3584x256.size a ≤ S3584x2048.size a := by
  intro a; fin_cases a
  · show 0 + 3584 ≤ 3584; omega
  · show 256 * k + 256 ≤ 2048; omega

variable (c : Dev nD)

/-! ## The loads -/

/-- Group `g` of the loaded rows. -/
def ldCol (arg1 : Memref sig .tc .vmem S512x3584 .bf16) (harg1 : arg1.IsWhole) (x0 : Vec F S512x3584 .bf16) (g : Fin 28) : Vec F S512x128 .bf16 :=
  View.readAt (Elt F) arg1.view (Rect.unit (s := S512x3584) ![0, 128 * g.val] S512x128.size (inbCol g.val g.isLt)).toLoadRect (harg1.unread x0)
/-- The block of the weights of store `k`. -/
def ldW (arg2 : Memref sig .tc .vmem S16x3584x128 .fp8e4m3) (harg2 : arg2.IsWhole) (x1 : Vec F S16x3584x128 .fp8e4m3) (k : Fin 448) : Vec F S1x128x128 .fp8e4m3 :=
  View.readAt (Elt F) arg2.view (Rect.unit (s := S16x3584x128) ![k.val / 28, 128 * (k.val % 28), 0] S1x128x128.size (inbWin k.val k.isLt)).toLoadRect (harg2.unread x1)
/-- Its scale. -/
def ldWs (arg3 : Memref sig .tc .vmem S16x28x1 .f32) (harg3 : arg3.IsWhole) (x2 : Vec F S16x28x1 .f32) (k : Fin 448) : Vec F S1x1x1 .f32 :=
  View.readAt (Elt F) arg3.view (Rect.unit (s := S16x28x1) ![k.val / 28, k.val % 28, 0] S1x1x1.size (inbWs k.val k.isLt)).toLoadRect (harg3.unread x2)

/-! ## The families -/

def codesFam (arg1 : Memref sig .tc .vmem S512x3584 .bf16) (harg1 : arg1.IsWhole) (x0 : Vec F S512x3584 .bf16) : List (View.Piece (Elt F) S512x3584 .fp8e4m3) :=
  fam (s := S512x3584) (fun k => ![0, 128 * k]) S512x128.size inbCol (fun g => codesBlk (ldCol arg1 harg1 x0 g)) 28 le_rfl
def xbFam (arg1 : Memref sig .tc .vmem S512x3584 .bf16) (harg1 : arg1.IsWhole) (x0 : Vec F S512x3584 .bf16) : List (View.Piece (Elt F) S512x3584 .bf16) :=
  fam (s := S512x3584) (fun k => ![0, 128 * k]) S512x128.size inbCol (fun g => xbBlk (ldCol arg1 harg1 x0 g)) 28 le_rfl
def scaleFam (arg1 : Memref sig .tc .vmem S512x3584 .bf16) (harg1 : arg1.IsWhole) (x0 : Vec F S512x3584 .bf16) : List (View.Piece (Elt F) S512x28 .f32) :=
  fam (s := S512x28) (fun k => ![0, k]) S512x1.size inbScale (fun g => scaleBlk (ldCol arg1 harg1 x0 g)) 28 le_rfl
def wbFam (arg2 : Memref sig .tc .vmem S16x3584x128 .fp8e4m3) (harg2 : arg2.IsWhole) (arg3 : Memref sig .tc .vmem S16x28x1 .f32) (harg3 : arg3.IsWhole)
    (x1 : Vec F S16x3584x128 .fp8e4m3) (x2 : Vec F S16x28x1 .f32) : List (View.Piece (Elt F) S3584x2048 .bf16) :=
  fam (s := S3584x2048) (fun k => ![128 * (k % 28), 128 * (k / 28)]) S128x128.size inbW (fun k => wbBlk (ldWs arg3 harg3 x2 k) (ldW arg2 harg2 x1 k)) 448 le_rfl
def outFam (xb : Vec F S512x3584 .bf16) (w : Fin 8 → Vec F S3584x256 .bf16) : List (View.Piece (Elt F) S512x16x128 .bf16) :=
  fam (s := S512x16x128) (fun k => ![0, 2 * k, 0]) S512x2x128.size inbOut (fun p => outBlk xb (w p)) 8 le_rfl

/-! ## The generated lists are these families -/

section Lists
variable (i : grid0.Coords) (arg1 : Memref sig .tc .vmem S512x3584 .bf16) (harg1 : arg1.IsWhole) (arg2 : Memref sig .tc .vmem S16x3584x128 .fp8e4m3) (harg2 : arg2.IsWhole) (arg3 : Memref sig .tc .vmem S16x28x1 .f32) (harg3 : arg3.IsWhole) (arg4 : Memref sig .tc .vmem S512x16x128 .bf16) (harg4 : arg4.IsWhole) (arg5 : Memref sig .tc .vmem S512x3584 .fp8e4m3) (harg5 : arg5.IsWhole) (arg6 : Memref sig .tc .vmem S512x28 .f32) (harg6 : arg6.IsWhole) (arg7 : Memref sig .tc .vmem S3584x2048 .bf16) (harg7 : arg7.IsWhole) (arg8 : Memref sig .tc .vmem S512x3584 .bf16) (harg8 : arg8.IsWhole)
    (x0 : Vec F S512x3584 .bf16) (x1 : Vec F S16x3584x128 .fp8e4m3) (x2 : Vec F S16x28x1 .f32) (xs0 : Vec F S3584x2048 .bf16)

/-- The working copy of the codes, read back whole. -/
def xbRead : Vec F S512x3584 .bf16 :=
  arg8.view.readCov (xbFam arg1 harg1 x0) (Rect.unit ![0, 0] S512x3584.size inb_S512x3584_S512x3584_0_0).toLoadRect

/-- The columns of two heads of the weights' working copy, where the point has just filled it; -/
def pairA (p : Fin 8) : Vec F S3584x256 .bf16 :=
  arg7.view.readCov (wbFam arg2 harg2 arg3 harg3 x1 x2) (Rect.unit (s := S3584x2048) ![0, 256 * p.val] S3584x256.size (inbPair p.val p.isLt)).toLoadRect
/-- and where it holds what the point before left. -/
def pairB (p : Fin 8) : Vec F S3584x256 .bf16 :=
  View.readAt (Elt F) arg7.view (Rect.unit (s := S3584x2048) ![0, 256 * p.val] S3584x256.size (inbPair p.val p.isLt)).toLoadRect (harg7.unread xs0)

set_option maxRecDepth 65536 in
theorem scalesA (hc0 : cond0_0 i) : (kernelRun0_A c i arg1 harg1 arg2 harg2 arg3 harg3 arg4 harg4 arg5 harg5 arg6 harg6 arg7 harg7 arg8 harg8 hc0 x0 x1 x2).2.2.1
    = scaleFam arg1 harg1 x0 := by sl_kernel_rfl

set_option maxRecDepth 65536 in
theorem codesA (hc0 : cond0_0 i) : (kernelRun0_A c i arg1 harg1 arg2 harg2 arg3 harg3 arg4 harg4 arg5 harg5 arg6 harg6 arg7 harg7 arg8 harg8 hc0 x0 x1 x2).2.1
    = codesFam arg1 harg1 x0 := by sl_kernel_rfl

set_option maxRecDepth 65536 in
theorem outA (hc0 : cond0_0 i) : (kernelRun0_A c i arg1 harg1 arg2 harg2 arg3 harg3 arg4 harg4 arg5 harg5 arg6 harg6 arg7 harg7 arg8 harg8 hc0 x0 x1 x2).1
    = outFam (xbRead arg1 harg1 arg8 x0) (pairA arg2 harg2 arg3 harg3 arg7 x1 x2) := by sl_kernel_rfl

set_option maxRecDepth 65536 in
theorem wbA (hc0 : cond0_0 i) : (kernelRun0_A c i arg1 harg1 arg2 harg2 arg3 harg3 arg4 harg4 arg5 harg5 arg6 harg6 arg7 harg7 arg8 harg8 hc0 x0 x1 x2).2.2.2.1
    = wbFam arg2 harg2 arg3 harg3 x1 x2 := by sl_kernel_rfl

set_option maxRecDepth 65536 in
theorem scalesB (hc0 : ¬cond0_0 i) : (kernelRun0_B c i arg1 harg1 arg2 harg2 arg3 harg3 arg4 harg4 arg5 harg5 arg6 harg6 arg7 harg7 arg8 harg8 hc0 x0 x1 x2 xs0).2.2.1
    = scaleFam arg1 harg1 x0 := by sl_kernel_rfl

set_option maxRecDepth 65536 in
theorem codesB (hc0 : ¬cond0_0 i) : (kernelRun0_B c i arg1 harg1 arg2 harg2 arg3 harg3 arg4 harg4 arg5 harg5 arg6 harg6 arg7 harg7 arg8 harg8 hc0 x0 x1 x2 xs0).2.1
    = codesFam arg1 harg1 x0 := by sl_kernel_rfl

set_option maxRecDepth 65536 in
theorem outB (hc0 : ¬cond0_0 i) : (kernelRun0_B c i arg1 harg1 arg2 harg2 arg3 harg3 arg4 harg4 arg5 harg5 arg6 harg6 arg7 harg7 arg8 harg8 hc0 x0 x1 x2 xs0).1
    = outFam (xbRead arg1 harg1 arg8 x0) (pairB arg7 harg7 xs0) := by sl_kernel_rfl

end Lists

end Cert.KernelIdeal.Pieces

end
-- ==== Proof.KernelBlocks.lean ====
/-
  The blocks that the kernel's body stores, at an index, over the extended reals.
-/
module

public import proofs.«01_k».proof.Proof.Pieces
public import proofs.«01_k».proof.Proof.Rows

@[expose] public section

noncomputable section

namespace Cert.KernelIdeal.Pieces

open Cert.KernelIdeal Cert.KernelIdeal.Gen Idealize.ShloMosaic Idealize.ShloMosaic.TcCoe Idealize.SL.Sem
open Cert.Quant (gval clip grp gof code deq proj)

section AnyFloat
variable {F : FTy → Type} [FloatOps F]

theorem scaleBlk_apply (x : Vec F S512x128 .bf16) (j : S512x1.Idx) : scaleBlk x j = Cert.Quant.kscale (k0_pay451 x j) := rfl

/-- A group's inverse scales. -/
def invBlk (x : Vec F S512x128 .bf16) : Vec F S512x1 .f32 := fun j => Cert.Quant.kinv (k0_pay451 x j)

end AnyFloat

/-- What a row's scale is found from. -/
theorem pay451_apply (x : Vec Ideal S512x128 .bf16) (r : Fin 512) : k0_pay451 (F := Ideal) x (ix2 r 0) = gval fun k => x (ix2 r k) := by
  pointwise [k0_pay451, k0_pay450]
  rfl

theorem scaleBlk_eq (x : Vec Ideal S512x128 .bf16) (r : Fin 512) :
    scaleBlk (F := Ideal) x (ix2 r 0) = Cert.Quant.kscale (F := Ideal) (gval fun k => x (ix2 r k)) := by
  rw [scaleBlk_apply, pay451_apply]

/-- A column over 128 columns. -/
theorem col_apply (v : FVec Ideal S512x1 .f32) (r : Fin 512) (l : Fin 128) :
    broadcastTo S512x128 v broadcasts_S512x1_S512x128 (ix2 r l) = v (ix2 r 0) := by
  pointwise

theorem codesBlk_eq (x : Vec Ideal S512x128 .bf16) (r : Fin 512) (l : Fin 128) :
    codesBlk (F := Ideal) x (ix2 r l) = clip (x (ix2 r l) * Cert.Quant.kinv (F := Ideal) (gval fun k => x (ix2 r k))) := by
  have e := col_apply (invBlk (F := Ideal) x) r l
  have e0 : k0_pay450 (F := Ideal) x (ix2 r l) = x (ix2 r l) := by pointwise [k0_pay450]
  rw [← pay451_apply, ← e0]
  exact congrArg clip (congrArg (k0_pay450 (F := Ideal) x (ix2 r l) * ·) e)

theorem xbBlk_eq (x : Vec Ideal S512x128 .bf16) (r : Fin 512) (l : Fin 128) :
    xbBlk (F := Ideal) x (ix2 r l) = codesBlk (F := Ideal) x (ix2 r l) * scaleBlk (F := Ideal) x (ix2 r 0) := by
  unfold xbBlk codesBlk scaleBlk
  pointwise [k0_pay459]

theorem wbBlk_eq (ws : Vec Ideal S1x1x1 .f32) (w : Vec Ideal S1x128x128 .fp8e4m3) (a b : Fin 128) :
    wbBlk (F := Ideal) ws w (ix2 a b) = w (ix3 0 a b) * ws (ix3 0 0 0) := by
  pointwise [wbBlk, k0_pay2]

theorem outBlk_eq (xb : Vec Ideal S512x3584 .bf16) (w : Vec Ideal S3584x256 .bf16) (r : Fin 512) (p : Fin 2) (b : Fin 128) :
    outBlk (F := Ideal) xb w (ix3 r p b) = ∑ k : Fin 3584, xb (ix2 r k) * w (ix2 k ⟨128 * p.val + b.val, by omega⟩) := by
  pointwise [outBlk, k0_pay737]
  fin_cases p
  · exact Finset.sum_congr rfl fun k _ => congrArg (fun c : Fin 256 => xb (ix2 r k) * w (ix2 k c)) (Fin.ext (by show b.val = 128 * 0 + b.val; omega))
  · rfl

end Cert.KernelIdeal.Pieces

end
-- ==== Proof.KernelPoint.lean ====
/-
  What the body leaves at a grid point, at an index, over the extended reals: the families of stores read as one function
  each, and the two working copies read back.
-/
module

public import proofs.«01_k».proof.Proof.KernelBlocks

@[expose] public section

noncomputable section

namespace Cert.KernelIdeal.Pieces

open Cert.KernelIdeal Cert.KernelIdeal.Gen Idealize.ShloMosaic Idealize.ShloMosaic.TcCoe Idealize.SL.Sem
open Cert.Quant (gval clip grp gof code deq proj)

/-- A row of a block of activations. -/
def brow (x0 : Vec Ideal S512x3584 .bf16) (r : Fin 512) : Fin 3584 → EReal := fun k => x0 (ix2 r k)

section Point
variable (arg1 : Memref sig .tc .vmem S512x3584 .bf16) (harg1 : arg1.IsWhole) (arg2 : Memref sig .tc .vmem S16x3584x128 .fp8e4m3) (harg2 : arg2.IsWhole) (arg3 : Memref sig .tc .vmem S16x28x1 .f32) (harg3 : arg3.IsWhole) (arg7 : Memref sig .tc .vmem S3584x2048 .bf16) (harg7 : arg7.IsWhole) (arg8 : Memref sig .tc .vmem S512x3584 .bf16)
    (x0 : Vec Ideal S512x3584 .bf16) (x1 : Vec Ideal S16x3584x128 .fp8e4m3) (x2 : Vec Ideal S16x28x1 .f32) (xs0 : Vec Ideal S3584x2048 .bf16)

/-! ## The loads -/

theorem ldCol_apply (g : Fin 28) (r : Fin 512) (l : Fin 128) :
    ldCol (F := Ideal) arg1 harg1 x0 g (ix2 r l) = grp (brow x0 r) g l := by
  unfold ldCol grp brow
  rw [View.readAt_eq_ld, harg1.read_unread]
  refine congrArg x0 (funext fun a => Fin.ext ?_)
  refine (Rect.idx_unit_val _ _ _ _ a).trans ?_
  fin_cases a
  · show 0 + r.val = r.val; omega
  · show 128 * g.val + l.val = g.val * 128 + l.val; omega

theorem ldW_apply (k : Fin 448) (a b : Fin 128) :
    ldW (F := Ideal) arg2 harg2 x1 k (ix3 0 a b) = x1 (ix3 ⟨k.val / 28, by omega⟩ ⟨128 * (k.val % 28) + a.val, by omega⟩ b) := by
  unfold ldW
  rw [View.readAt_eq_ld, harg2.read_unread]
  refine congrArg x1 (funext fun c => Fin.ext ?_)
  refine (Rect.idx_unit_val _ _ _ _ c).trans ?_
  fin_cases c
  · show k.val / 28 + 0 = k.val / 28; omega
  · rfl
  · show 0 + b.val = b.val; omega

theorem ldWs_apply (k : Fin 448) :
    ldWs (F := Ideal) arg3 harg3 x2 k (ix3 0 0 0) = x2 (ix3 ⟨k.val / 28, by omega⟩ ⟨k.val % 28, by omega⟩ 0) := by
  unfold ldWs
  rw [View.readAt_eq_ld, harg3.read_unread]
  refine congrArg x2 (funext fun c => Fin.ext ?_)
  refine (Rect.idx_unit_val _ _ _ _ c).trans ?_
  fin_cases c
  · show k.val / 28 + 0 = k.val / 28; omega
  · show k.val % 28 + 0 = k.val % 28; omega
  · rfl

/-! ## Where the blocks lie -/

theorem embCol (k : Fin 28) (r : Fin 512) (l : Fin 128) :
    (Rect.unit (s := S512x3584) ![0, 128 * k.val] S512x128.size (inbCol k.val k.isLt)).emb (ix2 r l) = ix2 r ⟨k.val * 128 + l.val, by omega⟩ := by
  refine funext fun a => Fin.ext ?_
  refine (Rect.idx_unit_val _ _ _ _ a).trans ?_
  fin_cases a
  · show 0 + r.val = r.val; omega
  · show 128 * k.val + l.val = k.val * 128 + l.val; omega

theorem embScale (k : Fin 28) (r : Fin 512) (l : Fin 1) :
    (Rect.unit (s := S512x28) ![0, k.val] S512x1.size (inbScale k.val k.isLt)).emb (ix2 r l) = ix2 r k := by
  refine funext fun a => Fin.ext ?_
  refine (Rect.idx_unit_val _ _ _ _ a).trans ?_
  fin_cases a
  · show 0 + r.val = r.val; omega
  · show k.val + l.val = k.val; omega

theorem embW (k : Fin 448) (a b : Fin 128) :
    (Rect.unit (s := S3584x2048) ![128 * (k.val % 28), 128 * (k.val / 28)] S128x128.size (inbW k.val k.isLt)).emb (ix2 a b)
      = ix2 ⟨128 * (k.val % 28) + a.val, by omega⟩ ⟨128 * (k.val / 28) + b.val, by omega⟩ := by
  refine funext fun c => Fin.ext ?_
  refine (Rect.idx_unit_val _ _ _ _ c).trans ?_
  fin_cases c <;> rfl

theorem embOut (k : Fin 8) (r : Fin 512) (q : Fin 2) (b : Fin 128) :
    (Rect.unit (s := S512x16x128) ![0, 2 * k.val, 0] S512x2x128.size (inbOut k.val k.isLt)).emb (ix3 r q b)
      = ix3 r ⟨2 * k.val + q.val, by omega⟩ b := by
  refine funext fun c => Fin.ext ?_
  refine (Rect.idx_unit_val _ _ _ _ c).trans ?_
  fin_cases c
  · show 0 + r.val = r.val; omega
  · rfl
  · show 0 + b.val = b.val; omega

theorem gof_col (g : Fin 28) (l : Fin 128) : gof ⟨g.val * 128 + l.val, by omega⟩ = g := Fin.ext (by show (g.val * 128 + l.val) / 128 = g.val; omega)

/-! ## The codes, the scales and the working copy of the codes -/

theorem codes_block (g : Fin 28) (r : Fin 512) (l : Fin 128) :
    codesBlk (F := Ideal) (ldCol (F := Ideal) arg1 harg1 x0 g) (ix2 r l)
      = code (Cert.Quant.kinv (F := Ideal)) (brow x0 r) ⟨g.val * 128 + l.val, by omega⟩ := by
  rw [codesBlk_eq]
  simp only [ldCol_apply]
  unfold code
  rw [gof_col]
  rfl

theorem scale_block (g : Fin 28) (r : Fin 512) (l : Fin 1) :
    scaleBlk (F := Ideal) (ldCol (F := Ideal) arg1 harg1 x0 g) (ix2 r l) = Cert.Quant.kscale (F := Ideal) (gval (grp (brow x0 r) g)) := by
  obtain rfl : l = 0 := Subsingleton.elim _ _
  rw [scaleBlk_eq]
  simp only [ldCol_apply]

theorem xb_block (g : Fin 28) (r : Fin 512) (l : Fin 128) :
    xbBlk (F := Ideal) (ldCol (F := Ideal) arg1 harg1 x0 g) (ix2 r l)
      = deq (Cert.Quant.kscale (F := Ideal)) (Cert.Quant.kinv (F := Ideal)) (brow x0 r) ⟨g.val * 128 + l.val, by omega⟩ := by
  rw [xbBlk_eq, codes_block, scale_block]
  unfold deq
  rw [gof_col]

theorem codes_canon (r : Fin 512) (j : Fin 3584) :
    View.canon (codesFam (F := Ideal) arg1 harg1 x0) (ix2 r j) = code (Cert.Quant.kinv (F := Ideal)) (brow x0 r) j := by
  refine canon_fam (Val := Elt Ideal) (s := S512x3584) (e := .fp8e4m3) (fun y => code (Cert.Quant.kinv (F := Ideal)) (brow x0 (y 0)) (y 1)) ?_ (ix2 r j) (gof j) (ix2 r ⟨j.val % 128, Nat.mod_lt _ (by decide)⟩) ?_
  · intro k x
    obtain ⟨p, q, rfl⟩ : ∃ (p : Fin 512) (q : Fin 128), x = ix2 p q := ⟨x 0, x 1, eq_ix2 _⟩
    rw [embCol]
    exact codes_block arg1 harg1 x0 k p q
  · intro a; fin_cases a
    · show 0 + r.val = r.val; omega
    · show 128 * (j.val / 128) + j.val % 128 = j.val; omega

theorem xb_canon (r : Fin 512) (j : Fin 3584) :
    View.canon (xbFam (F := Ideal) arg1 harg1 x0) (ix2 r j) = deq (Cert.Quant.kscale (F := Ideal)) (Cert.Quant.kinv (F := Ideal)) (brow x0 r) j := by
  refine canon_fam (Val := Elt Ideal) (s := S512x3584) (e := .bf16) (fun y => deq (Cert.Quant.kscale (F := Ideal)) (Cert.Quant.kinv (F := Ideal)) (brow x0 (y 0)) (y 1)) ?_ (ix2 r j) (gof j) (ix2 r ⟨j.val % 128, Nat.mod_lt _ (by decide)⟩) ?_
  · intro k x
    obtain ⟨p, q, rfl⟩ : ∃ (p : Fin 512) (q : Fin 128), x = ix2 p q := ⟨x 0, x 1, eq_ix2 _⟩
    rw [embCol]
    exact xb_block arg1 harg1 x0 k p q
  · intro a; fin_cases a
    · show 0 + r.val = r.val; omega
    · show 128 * (j.val / 128) + j.val % 128 = j.val; omega

theorem scale_canon (r : Fin 512) (g : Fin 28) :
    View.canon (scaleFam (F := Ideal) arg1 harg1 x0) (ix2 r g) = Cert.Quant.kscale (F := Ideal) (gval (grp (brow x0 r) g)) := by
  refine canon_fam (Val := Elt Ideal) (s := S512x28) (e := .f32) (fun y => Cert.Quant.kscale (F := Ideal) (gval (grp (brow x0 (y 0)) (y 1)))) ?_ (ix2 r g) g (ix2 r (0 : Fin 1)) ?_
  · intro k x
    obtain ⟨p, q, rfl⟩ : ∃ (p : Fin 512) (q : Fin 1), x = ix2 p q := ⟨x 0, x 1, eq_ix2 _⟩
    rw [embScale]
    exact scale_block arg1 harg1 x0 k p q
  · intro a; fin_cases a
    · show 0 + r.val = r.val; omega
    · show g.val + 0 = g.val; omega

theorem xbRead_apply (r : Fin 512) (j : Fin 3584) :
    xbRead (F := Ideal) arg1 harg1 arg8 x0 (ix2 r j) = deq (Cert.Quant.kscale (F := Ideal)) (Cert.Quant.kinv (F := Ideal)) (brow x0 r) j := by
  unfold xbRead
  rw [View.readCov_eq_canon']
  refine Eq.trans ?_ (xb_canon arg1 harg1 x0 r j)
  refine congrArg (View.canon (xbFam (F := Ideal) arg1 harg1 x0)) (funext fun a => Fin.ext ?_)
  refine (Rect.idx_unit_val _ _ _ _ a).trans ?_
  fin_cases a
  · show 0 + r.val = r.val; omega
  · show 0 + j.val = j.val; omega

/-! ## The working copy of the weights -/

/-- Weights times scales, the heads side by side. -/
def wbAt (x1 : Vec Ideal S16x3584x128 .fp8e4m3) (x2 : Vec Ideal S16x28x1 .f32) (k : Fin 3584) (c : Fin 2048) : EReal :=
  x1 (ix3 ⟨c.val / 128, by omega⟩ k ⟨c.val % 128, Nat.mod_lt _ (by decide)⟩) * x2 (ix3 ⟨c.val / 128, by omega⟩ (gof k) 0)

theorem wb_block (n : Fin 448) (a b : Fin 128) :
    wbBlk (F := Ideal) (ldWs (F := Ideal) arg3 harg3 x2 n) (ldW (F := Ideal) arg2 harg2 x1 n) (ix2 a b)
      = wbAt x1 x2 ⟨128 * (n.val % 28) + a.val, by omega⟩ ⟨128 * (n.val / 28) + b.val, by omega⟩ := by
  rw [wbBlk_eq, ldW_apply, ldWs_apply]
  unfold wbAt gof
  have h1 : (128 * (n.val / 28) + b.val) / 128 = n.val / 28 := by omega
  have h2 : (128 * (n.val / 28) + b.val) % 128 = b.val := by omega
  have h3 : (128 * (n.val % 28) + a.val) / 128 = n.val % 28 := by omega
  simp only [h1, h2, h3]

theorem wb_canon (k : Fin 3584) (c : Fin 2048) : View.canon (wbFam (F := Ideal) arg2 harg2 arg3 harg3 x1 x2) (ix2 k c) = wbAt x1 x2 k c := by
  refine canon_fam (Val := Elt Ideal) (s := S3584x2048) (e := .bf16) (fun y => wbAt x1 x2 (y 0) (y 1)) ?_ (ix2 k c) ⟨28 * (c.val / 128) + k.val / 128, by omega⟩
    (ix2 (⟨k.val % 128, Nat.mod_lt _ (by decide)⟩ : Fin 128) (⟨c.val % 128, Nat.mod_lt _ (by decide)⟩ : Fin 128)) ?_
  · intro n x
    obtain ⟨p, q, rfl⟩ : ∃ (p : Fin 128) (q : Fin 128), x = ix2 p q := ⟨x 0, x 1, eq_ix2 _⟩
    rw [embW]
    exact wb_block arg2 harg2 arg3 harg3 x1 x2 n p q
  · intro a; fin_cases a
    · show 128 * ((28 * (c.val / 128) + k.val / 128) % 28) + k.val % 128 = k.val; omega
    · show 128 * ((28 * (c.val / 128) + k.val / 128) / 28) + c.val % 128 = c.val; omega

theorem pairA_apply (p : Fin 8) (k : Fin 3584) (c : Fin 256) :
    pairA (F := Ideal) arg2 harg2 arg3 harg3 arg7 x1 x2 p (ix2 k c) = wbAt x1 x2 k ⟨256 * p.val + c.val, by omega⟩ := by
  unfold pairA
  rw [View.readCov_eq_canon']
  refine Eq.trans ?_ (wb_canon arg2 harg2 arg3 harg3 x1 x2 k _)
  refine congrArg (View.canon (wbFam (F := Ideal) arg2 harg2 arg3 harg3 x1 x2)) (funext fun a => Fin.ext ?_)
  refine (Rect.idx_unit_val _ _ _ _ a).trans ?_
  fin_cases a
  · show 0 + k.val = k.val; omega
  · rfl

theorem pairB_apply (p : Fin 8) (k : Fin 3584) (c : Fin 256) :
    pairB (F := Ideal) arg7 harg7 xs0 p (ix2 k c) = xs0 (ix2 k ⟨256 * p.val + c.val, by omega⟩) := by
  unfold pairB
  rw [View.readAt_eq_ld, harg7.read_unread]
  refine congrArg xs0 (funext fun a => Fin.ext ?_)
  refine (Rect.idx_unit_val _ _ _ _ a).trans ?_
  fin_cases a
  · show 0 + k.val = k.val; omega
  · rfl

/-! ## The output -/

/-- The eight stores of the output, where the columns of the weights' working copy are those of `wbAt`. -/
theorem out_canon (w : Fin 8 → Vec Ideal S3584x256 .bf16)
    (hw : ∀ (p : Fin 8) (k : Fin 3584) (c : Fin 256), w p (ix2 k c) = wbAt x1 x2 k ⟨256 * p.val + c.val, by omega⟩)
    (r : Fin 512) (h : Fin 16) (o : Fin 128) :
    View.canon (outFam (F := Ideal) (xbRead (F := Ideal) arg1 harg1 arg8 x0) w) (ix3 r h o)
      = proj (Cert.Quant.kscale (F := Ideal)) (Cert.Quant.kinv (F := Ideal)) (brow x0 r) (fun k => x1 (ix3 h k o)) (fun g => x2 (ix3 h g 0)) := by
  refine canon_fam (Val := Elt Ideal) (s := S512x16x128) (e := .bf16)
    (fun y => proj (Cert.Quant.kscale (F := Ideal)) (Cert.Quant.kinv (F := Ideal)) (brow x0 (y 0)) (fun k => x1 (ix3 (y 1) k (y 2))) (fun g => x2 (ix3 (y 1) g 0)))
    ?_ (ix3 r h o) ⟨h.val / 2, by omega⟩ (ix3 r (⟨h.val % 2, Nat.mod_lt _ (by decide)⟩ : Fin 2) o) ?_
  · intro n x
    obtain ⟨p, q, b, rfl⟩ : ∃ (p : Fin 512) (q : Fin 2) (b : Fin 128), x = ix3 p q b := ⟨x 0, x 1, x 2, eq_ix3 _⟩
    rw [embOut]
    refine (outBlk_eq _ _ p q b).trans ?_
    refine Finset.sum_congr rfl fun k _ => ?_
    rw [xbRead_apply, hw]
    unfold wbAt
    have h1 : (256 * n.val + (128 * q.val + b.val)) / 128 = 2 * n.val + q.val := by omega
    have h2 : (256 * n.val + (128 * q.val + b.val)) % 128 = b.val := by omega
    simp only [h1, h2]
    rfl
  · intro a; fin_cases a
    · show 0 + r.val = r.val; omega
    · show 2 * (h.val / 2) + h.val % 2 = h.val; omega
    · show 0 + o.val = o.val; omega

end Point

end Cert.KernelIdeal.Pieces

end
-- ==== Proof.KernelValue.lean ====
/-
  The kernel's three arrays after its run, at an index, over the extended reals: what a grid point leaves in the windows
  and in the carried working copy of the weights, by induction over the points, and the windows' blocks as parts of the
  arrays.
-/
module

public import proofs.«01_k».proof.Proof.KernelPoint

@[expose] public section

noncomputable section

namespace Cert.KernelIdeal.Value

open Cert.KernelIdeal Cert.KernelIdeal.Gen Idealize.ShloMosaic Idealize.ShloMosaic.TcCoe Idealize.SL.Sem
open Cert.Quant (gval clip grp gof code deq proj)
open Cert.KernelIdeal.Pieces

variable (m : (ℓ : Loc nD τ sig) → Buf (Elt Ideal) ℓ)

/-! ## The windows' blocks -/

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)

/-- The arrays that the region reads: the activations, a row per token, the weights and their scales. -/
def X (c : Dev nD) : Vec Ideal S24576x3584 .bf16 := V m c main_v0
def W (c : Dev nD) : Vec Ideal S16x3584x128 .fp8e4m3 := V m c main_arg1
def Ws (c : Dev nD) : Vec Ideal S16x28x1 .f32 := V m c main_arg2

/-- The blocks at a point, at their literal shapes. -/
def xblk (c : Dev nD) (t : Fin cfg0.N) : Vec Ideal S512x3584 .bf16 := iblk m c 0 t
def wblk (c : Dev nD) (t : Fin cfg0.N) : Vec Ideal S16x3584x128 .fp8e4m3 := iblk m c 1 t
def wsblk (c : Dev nD) (t : Fin cfg0.N) : Vec Ideal S16x28x1 .f32 := iblk m c 2 t

theorem lt48 (t : Fin cfg0.N) : t.val < 48 := lt_of_lt_of_eq t.isLt N_0

theorem xblk_apply (c : Dev nD) (t : Fin cfg0.N) (r : Fin 512) (k : Fin 3584) :
    xblk m c t (ix2 r k) = X m c (ix2 ⟨512 * t.val + r.val, by have := lt48 t; omega⟩ k) := by
  obtain ⟨e0, e1⟩ := index0 t
  refine congrArg (V m c main_v0) (funext fun a => Fin.ext ?_)
  fin_cases a
  · show win0_0.index t (0 : Fin 2) * 512 + 1 * r.val = 512 * t.val + r.val
    rw [e0]; omega
  · show win0_0.index t (1 : Fin 2) * 3584 + 1 * k.val = k.val
    rw [e1]; omega

theorem wblk_eq (c : Dev nD) (t : Fin cfg0.N) : wblk m c t = W m c := by
  obtain ⟨e0, e1, e2⟩ := index1 t
  funext y
  refine congrArg (V m c main_arg1) (funext fun a => Fin.ext ?_)
  fin_cases a
  · show win0_1.index t (0 : Fin 3) * 16 + 1 * (y 0).val = (y 0).val
    rw [e0]; omega
  · show win0_1.index t (1 : Fin 3) * 3584 + 1 * (y 1).val = (y 1).val
    rw [e1]; omega
  · show win0_1.index t (2 : Fin 3) * 128 + 1 * (y 2).val = (y 2).val
    rw [e2]; omega

theorem wsblk_eq (c : Dev nD) (t : Fin cfg0.N) : wsblk m c t = Ws m c := by
  obtain ⟨e0, e1, e2⟩ := index2 t
  funext y
  refine congrArg (V m c main_arg2) (funext fun a => Fin.ext ?_)
  fin_cases a
  · show win0_2.index t (0 : Fin 3) * 16 + 1 * (y 0).val = (y 0).val
    rw [e0]; omega
  · show win0_2.index t (1 : Fin 3) * 28 + 1 * (y 1).val = (y 1).val
    rw [e1]; omega
  · show win0_2.index t (2 : Fin 3) * 1 + 1 * (y 2).val = (y 2).val
    rw [e2]; omega

/-! ## What a point leaves -/

/-- The carried working copy of the weights holds weights times scales after every point. -/
theorem carried (c : Dev nD) : ∀ (n : ℕ) (hn : n < cfg0.N) (k : Fin 3584) (col : Fin 2048),
    (outsAt0 m c n hn).2.2.2 (ix2 k col) = wbAt (W m c) (Ws m c) k col
  | 0, hn, k, col => by
    rw [outsAt0_A m c ⟨0, hn⟩ (Nat.zero_mod _)]
    dsimp only
    unfold sout0_A_0
    rw [View.read_writes_junk_eq_canon, wbA, ← wblk_eq m c ⟨0, hn⟩, ← wsblk_eq m c ⟨0, hn⟩]
    exact wb_canon _ _ _ _ (wblk m c ⟨0, hn⟩) (wsblk m c ⟨0, hn⟩) k col
  | n + 1, hn, k, col => by
    have hN : n + 1 < 48 := lt_of_lt_of_eq hn N_0
    rw [outsAt0_B m c ⟨n + 1, hn⟩ (by show ¬(n + 1) % 48 = 0; omega)]
    dsimp only
    unfold sout0_B_0
    exact carried c n _ k col

theorem point_scale (c : Dev nD) (t : Fin cfg0.N) (r : Fin 512) (g : Fin 28) :
    (outsAt0 m c t.val t.isLt).2.2.1 (ix2 r g) = Cert.Quant.kscale (F := Ideal) (gval (grp (brow (xblk m c t) r) g)) := by
  by_cases h0 : t.val % 48 = 0
  · rw [outsAt0_A m c t h0]
    dsimp only
    unfold out0_A_5
    rw [View.read_writes_junk_eq_canon, scalesA]
    exact scale_canon _ _ (xblk m c t) r g
  · rw [outsAt0_B m c t h0]
    dsimp only
    unfold out0_B_5
    rw [View.read_writes_junk_eq_canon, scalesB]
    exact scale_canon _ _ (xblk m c t) r g

theorem point_code (c : Dev nD) (t : Fin cfg0.N) (r : Fin 512) (j : Fin 3584) :
    (outsAt0 m c t.val t.isLt).2.1 (ix2 r j) = code (Cert.Quant.kinv (F := Ideal)) (brow (xblk m c t) r) j := by
  by_cases h0 : t.val % 48 = 0
  · rw [outsAt0_A m c t h0]
    dsimp only
    unfold out0_A_4
    rw [View.read_writes_junk_eq_canon, codesA]
    exact codes_canon _ _ (xblk m c t) r j
  · rw [outsAt0_B m c t h0]
    dsimp only
    unfold out0_B_4
    rw [View.read_writes_junk_eq_canon, codesB]
    exact codes_canon _ _ (xblk m c t) r j

theorem point_out (c : Dev nD) (t : Fin cfg0.N) (r : Fin 512) (h : Fin 16) (o : Fin 128) :
    (outsAt0 m c t.val t.isLt).1 (ix3 r h o)
      = proj (Cert.Quant.kscale (F := Ideal)) (Cert.Quant.kinv (F := Ideal)) (brow (xblk m c t) r) (fun k => W m c (ix3 h k o)) (fun g => Ws m c (ix3 h g 0)) := by
  by_cases h0 : t.val % 48 = 0
  · rw [outsAt0_A m c t h0]
    dsimp only
    unfold out0_A_3
    rw [View.read_writes_junk_eq_canon, outA]
    refine out_canon _ _ _ (xblk m c t) (W m c) (Ws m c) _ (fun p k col => ?_) r h o
    rw [← wblk_eq m c t, ← wsblk_eq m c t]
    exact pairA_apply _ _ _ _ _ (wblk m c t) (wsblk m c t) p k col
  · rw [outsAt0_B m c t h0]
    dsimp only
    unfold out0_B_3
    rw [View.read_writes_junk_eq_canon, outB]
    refine out_canon _ _ _ (xblk m c t) (W m c) (Ws m c) _ (fun p k col => ?_) r h o
    rw [pairB_apply]
    exact carried m c _ _ _ _

/-! ## The arrays -/

/-- A token's row. -/
def row (c : Dev nD) (n : Fin 24576) : Fin 3584 → EReal := fun k => X m c (ix2 n k)

theorem brow_eq (c : Dev nD) (t : Fin cfg0.N) (r : Fin 512) (n : Fin 24576) (h : n.val = 512 * t.val + r.val) :
    brow (xblk m c t) r = row m c n := by
  funext k
  unfold brow row
  rw [xblk_apply]
  exact congrArg (fun a => X m c (ix2 a k)) (Fin.ext h.symm)

/-- The point that writes a token's rows. -/
def ptOf (n : Fin 24576) : Fin cfg0.N := ⟨n.val / 512, lt_of_lt_of_eq (show n.val / 512 < 48 by omega) N_0.symm⟩

theorem outsAt_congr (c : Dev nD) {a b : ℕ} (ha : a < cfg0.N) (hb : b < cfg0.N) (h : a = b) : outsAt0 m c a ha = outsAt0 m c b hb := by
  subst h; rfl

theorem arr5 (c : Dev nD) (n : Fin 24576) (g : Fin 28) :
    (dats m 0 c).arrAt 5 cfg0.N (ix2 n g) = Cert.Quant.kscale (F := Ideal) (gval (grp (row m c n) g)) := by
  rw [final5]
  have hp : pt5Of (ix2 n g) = n.val / 512 := by
    show 1 * (n.val / 512 - 0) + 1 * (g.val / 28 - 0) = n.val / 512; omega
  have hl : loc5Of (ix2 n g) = ix2 (⟨n.val % 512, Nat.mod_lt _ (by decide)⟩ : Fin 512) g := by
    funext a; refine Fin.ext ?_
    fin_cases a
    · rfl
    · show g.val % 28 = g.val; omega
  unfold G5
  rw [dif_pos (by rw [hp]; exact (ptOf n).isLt), ← outsAt0_sweep m c _ (by rw [hp]; exact (ptOf n).isLt), hl,
    outsAt_congr m c _ (ptOf n).isLt (hp : _ = (ptOf n).val), point_scale,
    brow_eq m c (ptOf n) _ n (by show n.val = 512 * (n.val / 512) + n.val % 512; omega)]

theorem arr4 (c : Dev nD) (n : Fin 24576) (j : Fin 3584) :
    (dats m 0 c).arrAt 4 cfg0.N (ix2 n j) = code (Cert.Quant.kinv (F := Ideal)) (row m c n) j := by
  rw [final4]
  have hp : pt4Of (ix2 n j) = n.val / 512 := by
    show 1 * (n.val / 512 - 0) + 1 * (j.val / 3584 - 0) = n.val / 512; omega
  have hl : loc4Of (ix2 n j) = ix2 (⟨n.val % 512, Nat.mod_lt _ (by decide)⟩ : Fin 512) j := by
    funext a; refine Fin.ext ?_
    fin_cases a
    · rfl
    · show j.val % 3584 = j.val; omega
  unfold G4
  rw [dif_pos (by rw [hp]; exact (ptOf n).isLt), ← outsAt0_sweep m c _ (by rw [hp]; exact (ptOf n).isLt), hl,
    outsAt_congr m c _ (ptOf n).isLt (hp : _ = (ptOf n).val), point_code,
    brow_eq m c (ptOf n) _ n (by show n.val = 512 * (n.val / 512) + n.val % 512; omega)]

theorem arr3 (c : Dev nD) (n : Fin 24576) (h : Fin 16) (o : Fin 128) :
    (dats m 0 c).arrAt 3 cfg0.N (ix3 n h o)
      = proj (Cert.Quant.kscale (F := Ideal)) (Cert.Quant.kinv (F := Ideal)) (row m c n) (fun k => W m c (ix3 h k o)) (fun g => Ws m c (ix3 h g 0)) := by
  rw [final3]
  have hp : pt3Of (ix3 n h o) = n.val / 512 := by
    show 1 * (n.val / 512 - 0) + 1 * (h.val / 16 - 0) + 1 * (o.val / 128 - 0) = n.val / 512; omega
  have hl : loc3Of (ix3 n h o) = ix3 (⟨n.val % 512, Nat.mod_lt _ (by decide)⟩ : Fin 512) h o := by
    funext a; refine Fin.ext ?_
    fin_cases a
    · rfl
    · show h.val % 16 = h.val; omega
    · show o.val % 128 = o.val; omega
  unfold G3
  rw [dif_pos (by rw [hp]; exact (ptOf n).isLt), ← outsAt0_sweep m c _ (by rw [hp]; exact (ptOf n).isLt), hl,
    outsAt_congr m c _ (ptOf n).isLt (hp : _ = (ptOf n).val), point_out,
    brow_eq m c (ptOf n) _ n (by show n.val = 512 * (n.val / 512) + n.val % 512; omega)]

end Cert.KernelIdeal.Value

end
-- ==== Proof.RefValue.lean ====
/-
  The reference's three results at an index, over the extended reals.
-/
module

public import proofs.«01_k».proof.Proof.RefRun
public import proofs.«01_k».proof.Proof.Rows

@[expose] public section

noncomputable section

namespace Cert.ReferenceIdeal.Value

open Cert.ReferenceIdeal Cert.ReferenceIdeal.Gen Idealize.ShloMosaic Idealize.ShloMosaic.TcCoe Idealize.SL.Sem
open Cert.Quant (gval clip grp gof code deq proj)

/-- A row of the activations. -/
def xrow (x : Vec Ideal S24576x3584 .bf16) (r : Fin 24576) : Fin 3584 → EReal := fun k => x (ix2 r k)

set_option maxRecDepth 65536 in
theorem pay2_apply (x : Vec Ideal S24576x3584 .bf16) (r : Fin 24576) (g : Fin 28) (k : Fin 128) :
    k0_pay2 (F := Ideal) x (ix3 r g k) = grp (xrow x r) g k := by
  show shapeCast S24576x28x128 (shapeCast S24576x3584 x shapeCasts_S24576x3584_S24576x3584) shapeCasts_S24576x3584_S24576x28x128 (ix3 r g k) = x (ix2 r _)
  pointwise

set_option maxRecDepth 65536 in
theorem fold_apply (x : FVec Ideal S24576x28x128 .f32) (r : Fin 24576) (g : Fin 28) :
    multiReduction (F := Ideal) (φ := .f32) .maximumf [2] S24576x28 (absf x) 0xFF800000#32 reduces_S24576x28x128_S24576x28 (.inl rfl) rfl (ix2 r g)
      = Finset.fold max (Ideal.ofBits FTy.f32 0xFF800000#32) (fun k : Fin 128 => max (x (ix3 r g k)) (-(x (ix3 r g k)))) Finset.univ := by
  pointwise
  rfl

/-! The elementwise parts, over any shape. -/

section Elementwise
variable {s : Shape}

/-- The exponents of a vector of largest magnitudes; -/
def expoV (a : FVec Ideal s .f32) : FVec Ideal s .f32 :=
  select (cmpf .olt (mulf a (broadcast s (Scalar.ofBits (F := Ideal) .f32 0x3B124925#32))) (broadcast s (Scalar.ofBits (F := Ideal) .f32 0x00800000#32)))
    (broadcast s (Scalar.ofBits (F := Ideal) .f32 0x00000000#32))
    (addf (floor (divf (log (mulf a (broadcast s (Scalar.ofBits (F := Ideal) .f32 0x3B124925#32)))) (log (broadcast s (Scalar.ofBits (F := Ideal) .f32 0x40000000#32)))))
      (broadcast s (Scalar.ofBits (F := Ideal) .f32 0x3F800000#32)))
theorem expoV_apply (a : FVec Ideal s .f32) (j : s.Idx) :
    expoV a j = Cert.Quant.rexpo (F := Ideal) (a j * Ideal.ofBits FTy.f32 0x3B124925#32) := rfl

/-- the inverse scales of a vector of exponents; -/
def invV (e : FVec Ideal s .f32) : FVec Ideal s .f32 := exp2 (subf (broadcast s (Scalar.ofBits (F := Ideal) .f32 0x00000000#32)) e)
theorem invV_apply (e : FVec Ideal s .f32) (j : s.Idx) :
    invV e j = FloatOps.exp2 (F := Ideal) (FloatOps.subf (F := Ideal) (φ := .f32) (FloatOps.ofBits .f32 0x00000000#32) (e j)) := rfl

/-- and the codes of a vector, given what to multiply it with. -/
def codesV (h : FTy.fp8e4m3.bits < FTy.f32.bits) (x y : FVec Ideal s .f32) : FVec Ideal s .fp8e4m3 :=
  truncf .fp8e4m3 (minimumf (broadcast s (Scalar.ofBits (F := Ideal) .f32 0x43E00000#32)) (maximumf (broadcast s (Scalar.ofBits (F := Ideal) .f32 0xC3E00000#32)) (mulf x y))) h
theorem codesV_apply (h : FTy.fp8e4m3.bits < FTy.f32.bits) (x y : FVec Ideal s .f32) (j : s.Idx) : codesV h x y j = clip (x j * y j) := rfl

theorem exp2_apply (e : FVec Ideal s .f32) (j : s.Idx) : exp2 e j = FloatOps.exp2 (F := Ideal) (e j) := rfl
/-- A product of two narrowings. -/
def deqV (h : FTy.fp8e4m3.bits < FTy.bf16.bits) (x : FVec Ideal s .fp8e4m3) (y : FVec Ideal s .bf16) : FVec Ideal s .bf16 := mulf (extf .bf16 x h) y
theorem deqV_apply (h : FTy.fp8e4m3.bits < FTy.bf16.bits) (x : FVec Ideal s .fp8e4m3) (y : FVec Ideal s .bf16) (j : s.Idx) : deqV h x y j = x j * y j := rfl
theorem truncf_apply (h : FTy.bf16.bits < FTy.f32.bits) (x : FVec Ideal s .f32) (j : s.Idx) : truncf .bf16 x h j = x j := rfl

end Elementwise

theorem pay3_apply (x : Vec Ideal S24576x3584 .bf16) (r : Fin 24576) (g : Fin 28) :
    k0_pay3 (F := Ideal) x (ix2 r g) = Cert.Quant.rexpo (F := Ideal) (gval (grp (xrow x r) g)) := by
  have e : k0_pay3 (F := Ideal) x = expoV (multiReduction (F := Ideal) (φ := .f32) .maximumf [2] S24576x28 (absf (k0_pay2 (F := Ideal) x)) 0xFF800000#32 reduces_S24576x28x128_S24576x28 (.inl rfl) rfl) := rfl
  rw [e, expoV_apply, fold_apply]
  unfold gval
  simp only [pay2_apply]

theorem pay4_apply (x : Vec Ideal S24576x3584 .bf16) (r : Fin 24576) (g : Fin 28) :
    k0_pay4 (F := Ideal) x (ix2 r g) = Cert.Quant.rscale (F := Ideal) (gval (grp (xrow x r) g)) := by
  have e : k0_pay4 (F := Ideal) x = exp2 (k0_pay3 (F := Ideal) x) := rfl
  rw [e, exp2_apply, pay3_apply]
  rfl

set_option maxRecDepth 65536 in
theorem cast1_apply {φ : FTy} (v : FVec Ideal S24576x28 φ) (r : Fin 24576) (g : Fin 28) (k : Fin 128) :
    broadcastTo S24576x28x128 (shapeCast S24576x28x1 v shapeCasts_S24576x28_S24576x28x1) broadcasts_S24576x28x1_S24576x28x128 (ix3 r g k) = v (ix2 r g) := by
  pointwise

theorem pay5_apply (x : Vec Ideal S24576x3584 .bf16) (r : Fin 24576) (g : Fin 28) (k : Fin 128) :
    k0_pay5 (F := Ideal) x (ix3 r g k) = clip (grp (xrow x r) g k * Cert.Quant.rinv (F := Ideal) (gval (grp (xrow x r) g))) := by
  have e : k0_pay5 (F := Ideal) x = codesV bitsLt_fp8e4m3_f32 (k0_pay2 (F := Ideal) x)
      (broadcastTo S24576x28x128 (shapeCast S24576x28x1 (invV (k0_pay3 (F := Ideal) x)) shapeCasts_S24576x28_S24576x28x1) broadcasts_S24576x28x1_S24576x28x128) := rfl
  rw [e, codesV_apply, pay2_apply, cast1_apply, invV_apply, pay3_apply]
  rfl

set_option maxRecDepth 65536 in
theorem cast2_apply {φ : FTy} (v : FVec Ideal S24576x28x128 φ) (r : Fin 24576) (j : Fin 3584) :
    shapeCast S24576x3584 v shapeCasts_S24576x28x128_S24576x3584 (ix2 r j) = v (ix3 r (gof j) ⟨j.val % 128, Nat.mod_lt _ (by decide)⟩) := by
  unfold gof
  pointwise

theorem grp_gof (row : Fin 3584 → EReal) (j : Fin 3584) : grp row (gof j) ⟨j.val % 128, Nat.mod_lt _ (by decide)⟩ = row j := by
  unfold grp gof
  exact congrArg row (Fin.ext (by show j.val / 128 * 128 + j.val % 128 = j.val; omega))

/-- The codes. -/
theorem pay6_apply (x : Vec Ideal S24576x3584 .bf16) (r : Fin 24576) (j : Fin 3584) :
    k0_pay6 (F := Ideal) x (ix2 r j) = code (Cert.Quant.rinv (F := Ideal)) (xrow x r) j := by
  have e : k0_pay6 (F := Ideal) x = shapeCast S24576x3584 (k0_pay5 (F := Ideal) x) shapeCasts_S24576x28x128_S24576x3584 := rfl
  rw [e, cast2_apply, pay5_apply, grp_gof]
  rfl

/-- The codes times their scales. -/
theorem pay7_apply (x : Vec Ideal S24576x3584 .bf16) (r : Fin 24576) (j : Fin 3584) :
    k0_pay7 (F := Ideal) x (ix2 r j) = deq (Cert.Quant.rscale (F := Ideal)) (Cert.Quant.rinv (F := Ideal)) (xrow x r) j := by
  have e : k0_pay7 (F := Ideal) x = shapeCast S24576x3584 (deqV bitsLt_fp8e4m3_bf16 (k0_pay5 (F := Ideal) x)
      (broadcastTo S24576x28x128 (shapeCast S24576x28x1 (truncf .bf16 (k0_pay4 (F := Ideal) x) bitsLt_bf16_f32) shapeCasts_S24576x28_S24576x28x1) broadcasts_S24576x28x1_S24576x28x128))
      shapeCasts_S24576x28x128_S24576x3584 := rfl
  rw [e, cast2_apply, deqV_apply, pay5_apply, grp_gof, cast1_apply, truncf_apply, pay4_apply]
  rfl

set_option maxRecDepth 65536 in
theorem pay1_apply (xb : Vec Ideal S24576x3584 .bf16) (w : Vec Ideal S16x3584x128 .fp8e4m3) (ws : Vec Ideal S16x28x1 .f32) (r : Fin 24576) (h : Fin 16) (o : Fin 128) :
    k0_pay1 (F := Ideal) xb w ws (ix3 r h o) = ∑ k : Fin 3584, xb (ix2 r k) * (w (ix3 h k o) * ws (ix3 h ⟨k.val / 128, by omega⟩ 0)) := by
  pointwise [k0_pay1]

/-! ## The blocks -/

theorem zero2 : (![0, 0] : Fin 2 → ℕ) = fun _ => 0 := by funext a; fin_cases a <;> rfl
theorem zero3 : (![0, 0, 0] : Fin 3 → ℕ) = fun _ => 0 := by funext a; fin_cases a <;> rfl

theorem out5_apply (x0 : Vec Ideal S24576x3584 .bf16) (x1 : Vec Ideal S16x3584x128 .fp8e4m3) (x2 : Vec Ideal S16x28x1 .f32) (r : Fin 24576) (g : Fin 28) :
    out0_5 (F := Ideal) x0 x1 x2 (ix2 r g) = Cert.Quant.rscale (F := Ideal) (gval (grp (xrow x0 r) g)) := by
  unfold out0_5
  rw [View.canon_unit_zero zero2, View.ld_unit_zero zero2]
  exact pay4_apply x0 r g

theorem out4_apply (x0 : Vec Ideal S24576x3584 .bf16) (x1 : Vec Ideal S16x3584x128 .fp8e4m3) (x2 : Vec Ideal S16x28x1 .f32) (r : Fin 24576) (j : Fin 3584) :
    out0_4 (F := Ideal) x0 x1 x2 (ix2 r j) = code (Cert.Quant.rinv (F := Ideal)) (xrow x0 r) j := by
  unfold out0_4
  rw [View.canon_unit_zero zero2, View.ld_unit_zero zero2]
  exact pay6_apply x0 r j

theorem out3_apply (x0 : Vec Ideal S24576x3584 .bf16) (x1 : Vec Ideal S16x3584x128 .fp8e4m3) (x2 : Vec Ideal S16x28x1 .f32) (r : Fin 24576) (h : Fin 16) (o : Fin 128) :
    out0_3 (F := Ideal) x0 x1 x2 (ix3 r h o)
      = proj (Cert.Quant.rscale (F := Ideal)) (Cert.Quant.rinv (F := Ideal)) (xrow x0 r) (fun k => x1 (ix3 h k o)) (fun g => x2 (ix3 h g 0)) := by
  unfold out0_3
  rw [View.canon_unit_zero zero3, View.ld_unit_zero zero2, View.ld_unit_zero zero3, View.ld_unit_zero zero3, pay1_apply]
  simp only [pay7_apply]
  rfl

end Cert.ReferenceIdeal.Value

end
-- ==== Proof.RefArrays.lean ====
/-
  The reference's three arrays after its run, at an index, over the extended reals: the windows' blocks at its one grid
  point are the whole arrays.
-/
module

public import proofs.«01_k».proof.Proof.RefRun
public import proofs.«01_k».proof.Proof.RefValue

@[expose] public section

noncomputable section

namespace Cert.ReferenceIdeal.Value

open Cert.ReferenceIdeal Cert.ReferenceIdeal.Gen Idealize.ShloMosaic Idealize.ShloMosaic.TcCoe Idealize.SL.Sem
open Cert.Quant (gval clip grp gof code deq proj)

variable (m : (ℓ : Loc nD τ sig) → Buf (Elt Ideal) ℓ)

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = 0 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

/-- The arrays that the region reads: the activations, a row per token, the weights and their scales. -/
def X (c : Dev nD) : Vec Ideal S24576x3584 .bf16 := V m c main_v0
def W (c : Dev nD) : Vec Ideal S16x3584x128 .fp8e4m3 := V m c main_arg1
def Ws (c : Dev nD) : Vec Ideal S16x28x1 .f32 := V m c main_arg2

/-- The blocks at the point, at their literal shapes. -/
def xblk (c : Dev nD) (t : Fin cfg0.N) : Vec Ideal S24576x3584 .bf16 := iblk m c 0 t
def wblk (c : Dev nD) (t : Fin cfg0.N) : Vec Ideal S16x3584x128 .fp8e4m3 := iblk m c 1 t
def wsblk (c : Dev nD) (t : Fin cfg0.N) : Vec Ideal S16x28x1 .f32 := iblk m c 2 t

theorem xblk_eq (c : Dev nD) (t : Fin cfg0.N) : xblk m c t = X m c := by
  obtain ⟨e0, e1⟩ := index0 t
  funext y
  refine congrArg (V m c main_v0) (funext fun a => Fin.ext ?_)
  fin_cases a
  · show win0_0.index t (0 : Fin 2) * 24576 + 1 * (y 0).val = (y 0).val
    rw [e0]; omega
  · show win0_0.index t (1 : Fin 2) * 3584 + 1 * (y 1).val = (y 1).val
    rw [e1]; omega

theorem wblk_eq (c : Dev nD) (t : Fin cfg0.N) : wblk m c t = W m c := by
  obtain ⟨e0, e1, e2⟩ := index1 t
  funext y
  refine congrArg (V m c main_arg1) (funext fun a => Fin.ext ?_)
  fin_cases a
  · show win0_1.index t (0 : Fin 3) * 16 + 1 * (y 0).val = (y 0).val
    rw [e0]; omega
  · show win0_1.index t (1 : Fin 3) * 3584 + 1 * (y 1).val = (y 1).val
    rw [e1]; omega
  · show win0_1.index t (2 : Fin 3) * 128 + 1 * (y 2).val = (y 2).val
    rw [e2]; omega

theorem wsblk_eq (c : Dev nD) (t : Fin cfg0.N) : wsblk m c t = Ws m c := by
  obtain ⟨e0, e1, e2⟩ := index2 t
  funext y
  refine congrArg (V m c main_arg2) (funext fun a => Fin.ext ?_)
  fin_cases a
  · show win0_2.index t (0 : Fin 3) * 16 + 1 * (y 0).val = (y 0).val
    rw [e0]; omega
  · show win0_2.index t (1 : Fin 3) * 28 + 1 * (y 1).val = (y 1).val
    rw [e1]; omega
  · show win0_2.index t (2 : Fin 3) * 1 + 1 * (y 2).val = (y 2).val
    rw [e2]; omega

/-- The one grid point. -/
def pt : Fin cfg0.N := ⟨0, by decide +kernel⟩

/-- A token's row. -/
def row (c : Dev nD) (n : Fin 24576) : Fin 3584 → EReal := fun k => X m c (ix2 n k)

/-- What the point writes back to window 5 is the array: its block is the whole array. -/
theorem read5 (A f : Vec Ideal S24576x28 .f32) (e : ((cfg0.win 5).blk pt).view.read (Elt Ideal) A = (cfg0.win 5).cut (grid0.coords pt) f)
    (n : Fin 24576) (g : Fin 28) : A (ix2 n g) = f (ix2 n g) := by
  obtain ⟨e0, e1⟩ := index5 pt
  have hi : ((cfg0.win 5).blk pt).view.emb (ix2 n g) = ix2 n g := by
    funext a; refine Fin.ext ?_
    fin_cases a
    · show win0_5.index pt (0 : Fin 2) * 24576 + 1 * n.val = n.val
      rw [e0]; omega
    · show win0_5.index pt (1 : Fin 2) * 28 + 1 * g.val = g.val
      rw [e1]; omega
  have e' : A (((cfg0.win 5).blk pt).view.emb (ix2 n g)) = f (ix2 n g) := congrFun e (ix2 n g)
  rwa [hi] at e'

theorem arr5 (c : Dev nD) (n : Fin 24576) (g : Fin 28) :
    (dats m 0 c).arrAt 5 cfg0.N (ix2 n g) = Cert.Quant.rscale (F := Ideal) (gval (grp (row m c n) g)) := by
  refine (read5 _ _ ((blocks5 m c pt (flush5 pt)).trans (flushed5 m c pt)) n g).trans ?_
  refine (out5_apply (xblk m c pt) (wblk m c pt) (wsblk m c pt) n g).trans ?_
  rw [xblk_eq]
  rfl

/-- What the point writes back to window 4 is the array: its block is the whole array. -/
theorem read4 (A f : Vec Ideal S24576x3584 .fp8e4m3) (e : ((cfg0.win 4).blk pt).view.read (Elt Ideal) A = (cfg0.win 4).cut (grid0.coords pt) f)
    (n : Fin 24576) (j : Fin 3584) : A (ix2 n j) = f (ix2 n j) := by
  obtain ⟨e0, e1⟩ := index4 pt
  have hi : ((cfg0.win 4).blk pt).view.emb (ix2 n j) = ix2 n j := by
    funext a; refine Fin.ext ?_
    fin_cases a
    · show win0_4.index pt (0 : Fin 2) * 24576 + 1 * n.val = n.val
      rw [e0]; omega
    · show win0_4.index pt (1 : Fin 2) * 3584 + 1 * j.val = j.val
      rw [e1]; omega
  have e' : A (((cfg0.win 4).blk pt).view.emb (ix2 n j)) = f (ix2 n j) := congrFun e (ix2 n j)
  rwa [hi] at e'

theorem arr4 (c : Dev nD) (n : Fin 24576) (j : Fin 3584) :
    (dats m 0 c).arrAt 4 cfg0.N (ix2 n j) = code (Cert.Quant.rinv (F := Ideal)) (row m c n) j := by
  refine (read4 _ _ ((blocks4 m c pt (flush4 pt)).trans (flushed4 m c pt)) n j).trans ?_
  refine (out4_apply (xblk m c pt) (wblk m c pt) (wsblk m c pt) n j).trans ?_
  rw [xblk_eq]
  rfl

/-- What the point writes back to window 3 is the array: its block is the whole array. -/
theorem read3 (A f : Vec Ideal S24576x16x128 .bf16) (e : ((cfg0.win 3).blk pt).view.read (Elt Ideal) A = (cfg0.win 3).cut (grid0.coords pt) f)
    (n : Fin 24576) (h : Fin 16) (o : Fin 128) : A (ix3 n h o) = f (ix3 n h o) := by
  obtain ⟨e0, e1, e2⟩ := index3 pt
  have hi : ((cfg0.win 3).blk pt).view.emb (ix3 n h o) = ix3 n h o := by
    funext a; refine Fin.ext ?_
    fin_cases a
    · show win0_3.index pt (0 : Fin 3) * 24576 + 1 * n.val = n.val
      rw [e0]; omega
    · show win0_3.index pt (1 : Fin 3) * 16 + 1 * h.val = h.val
      rw [e1]; omega
    · show win0_3.index pt (2 : Fin 3) * 128 + 1 * o.val = o.val
      rw [e2]; omega
  have e' : A (((cfg0.win 3).blk pt).view.emb (ix3 n h o)) = f (ix3 n h o) := congrFun e (ix3 n h o)
  rwa [hi] at e'

theorem arr3 (c : Dev nD) (n : Fin 24576) (h : Fin 16) (o : Fin 128) :
    (dats m 0 c).arrAt 3 cfg0.N (ix3 n h o)
      = proj (Cert.Quant.rscale (F := Ideal)) (Cert.Quant.rinv (F := Ideal)) (row m c n) (fun k => W m c (ix3 h k o)) (fun g => Ws m c (ix3 h g 0)) := by
  refine (read3 _ _ ((blocks3 m c pt (flush3 pt)).trans (flushed3 m c pt)) n h o).trans ?_
  refine (out3_apply (xblk m c pt) (wblk m c pt) (wsblk m c pt) n h o).trans ?_
  rw [xblk_eq, wblk_eq, wsblk_eq]
  rfl

end Cert.ReferenceIdeal.Value

end
-- ==== Proof.Values.lean ====
/-
  The two programs' arrays are equal, from memories that agree on the arguments and hold finite activations.
-/
module

public import proofs.«01_k».proof.Defs
public import proofs.«01_k».proof.Proof.Bound
public import proofs.«01_k».proof.Proof.KernelValue
public import proofs.«01_k».proof.Proof.RefArrays
public import proofs.«01_k».proof.Proof.Gen.Pre_finite
public import Idealize.ShloMosaic.Lib.Claim

@[expose] public section

noncomputable section

namespace Cert.Values

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's activations, as launched. -/
abbrev arg (c : Dev Cert.KernelIdeal.nD) : Vec Ideal Cert.KernelIdeal.S4x6144x3584 .bf16 :=
  m ((c.tc : Thread Cert.KernelIdeal.nD Cert.KernelIdeal.τ).loc Cert.KernelIdeal.main_arg0)

theorem casts : Cert.KernelIdeal.S4x6144x3584.ShapeCasts Cert.KernelIdeal.S24576x3584 := by decide

/-- The rows that the kernel's region reads are the activations in row-major order. -/
theorem kernel_X (c : Dev Cert.KernelIdeal.nD) :
    Cert.KernelIdeal.Value.X m c = shapeCast Cert.KernelIdeal.S24576x3584 (arg m c) casts := by
  show Cert.KernelIdeal.Gen.V m c Cert.KernelIdeal.main_v0 = _
  entry_read
  rfl

theorem reference_X (c : Dev Cert.ReferenceIdeal.nD)
    (h : m' ((c.tc : Thread Cert.ReferenceIdeal.nD Cert.ReferenceIdeal.τ).loc Cert.ReferenceIdeal.main_arg0) = arg m c) :
    Cert.ReferenceIdeal.Value.X m' c = shapeCast Cert.KernelIdeal.S24576x3584 (arg m c) casts := by
  rw [← h]
  show Cert.ReferenceIdeal.Gen.V m' c Cert.ReferenceIdeal.main_v0 = _
  entry_read
  rfl

theorem row_eq (c : Dev Cert.KernelIdeal.nD)
    (h : m' ((c.tc : Thread Cert.ReferenceIdeal.nD Cert.ReferenceIdeal.τ).loc Cert.ReferenceIdeal.main_arg0) = arg m c) (n : Fin 24576) :
    Cert.ReferenceIdeal.Value.row m' c n = Cert.KernelIdeal.Value.row m c n := by
  unfold Cert.ReferenceIdeal.Value.row Cert.KernelIdeal.Value.row
  rw [reference_X m m' c h, kernel_X]

theorem le_of_ofBool {p : Prop} [Decidable p] (h : BitVec.ofBool (decide p) = 1#1) : p := by
  by_contra hp
  rw [decide_eq_false hp] at h
  exact absurd h (by decide)

/-- The precondition at an index. -/
theorem finite_apply (x : Vec Ideal Cert.KernelIdeal.S4x6144x3584 .bf16) (w : Vec Ideal Cert.KernelIdeal.S16x3584x128 .fp8e4m3)
    (ws : Vec Ideal Cert.KernelIdeal.S16x28x1 .f32)
    (h : @Cert.Pre_finite.fn Cert.Pre_finite.Gen.facts Ideal _ x w ws = fun _ => 1#1) (i : Cert.KernelIdeal.S4x6144x3584.Idx) :
    max (x i : EReal) (-(x i)) ≤ Ideal.ofBits .f32 0x7F7F0000#32 :=
  le_of_ofBool (congrFun h i)

/-- Every group's scale is in range. -/
theorem in_range (c : Dev Cert.KernelIdeal.nD) (h : ∀ i, max (arg m c i : EReal) (-(arg m c i)) ≤ Ideal.ofBits .f32 0x7F7F0000#32)
    (n : Fin 24576) (g : Fin 28) :
    ∃ r : ℝ, Cert.Quant.gval (Cert.Quant.grp (Cert.KernelIdeal.Value.row m c n) g) = (r : EReal) ∧ r < (2 : ℝ) ^ (126 : ℤ) := by
  refine Cert.Quant.gval_real fun k => ?_
  unfold Cert.Quant.grp Cert.KernelIdeal.Value.row
  rw [kernel_X]
  exact h _

theorem ext2 {a b : ℕ} {φ : FTy} (x y : FVec Ideal ⟨2, ![a, b]⟩ φ) (h : ∀ (n : Fin a) (j : Fin b), x (ix2 n j) = y (ix2 n j)) : x = y :=
  funext fun i => by rw [eq_ix2 i]; exact h _ _

theorem ext3 {a b d : ℕ} {φ : FTy} (x y : FVec Ideal ⟨3, ![a, b, d]⟩ φ)
    (h : ∀ (n : Fin a) (j : Fin b) (o : Fin d), x (ix3 n j o) = y (ix3 n j o)) : x = y :=
  funext fun i => by rw [eq_ix3 i]; exact h _ _ _

section Equal
variable (c : Dev Cert.KernelIdeal.nD)
  (hf : ∀ i, max (arg m c i : EReal) (-(arg m c i)) ≤ Ideal.ofBits .f32 0x7F7F0000#32)
  (h0 : m' ((c.tc : Thread Cert.ReferenceIdeal.nD Cert.ReferenceIdeal.τ).loc Cert.ReferenceIdeal.main_arg0) = arg m c)
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))
include hf h0

/-- The scales. -/
theorem scales_agree : ((Cert.ReferenceIdeal.Gen.dats m' 0 c).arrAt 5 Cert.ReferenceIdeal.cfg0.N : Vec Ideal Cert.KernelIdeal.S24576x28 .f32)
    = (Cert.KernelIdeal.Gen.dats m 0 c).arrAt 5 Cert.KernelIdeal.cfg0.N := by
  refine ext2 (φ := .f32) _ _ fun n j => ?_
  refine (Cert.ReferenceIdeal.Value.arr5 m' c n j).trans (Eq.trans ?_ (Cert.KernelIdeal.Value.arr5 m c n j).symm)
  rw [row_eq m m' c h0, Cert.Quant.scale_agree (in_range m c hf _)]

/-- The codes. -/
theorem codes_agree : ((Cert.ReferenceIdeal.Gen.dats m' 0 c).arrAt 4 Cert.ReferenceIdeal.cfg0.N : Vec Ideal Cert.KernelIdeal.S24576x3584 .fp8e4m3)
    = (Cert.KernelIdeal.Gen.dats m 0 c).arrAt 4 Cert.KernelIdeal.cfg0.N := by
  refine ext2 (φ := .f32) _ _ fun n j => ?_
  refine (Cert.ReferenceIdeal.Value.arr4 m' c n j).trans (Eq.trans ?_ (Cert.KernelIdeal.Value.arr4 m c n j).symm)
  rw [row_eq m m' c h0, Cert.Quant.code_agree (in_range m c hf _)]

include h1 h2

/-- The outputs. -/
theorem outs_agree : ((Cert.ReferenceIdeal.Gen.dats m' 0 c).arrAt 3 Cert.ReferenceIdeal.cfg0.N : Vec Ideal Cert.KernelIdeal.S24576x16x128 .bf16)
    = (Cert.KernelIdeal.Gen.dats m 0 c).arrAt 3 Cert.KernelIdeal.cfg0.N := by
  refine ext3 (φ := .bf16) _ _ fun n h o => ?_
  refine (Cert.ReferenceIdeal.Value.arr3 m' c n h o).trans (Eq.trans ?_ (Cert.KernelIdeal.Value.arr3 m c n h o).symm)
  have e1 : Cert.ReferenceIdeal.Value.W m' c = Cert.KernelIdeal.Value.W m c :=
    (Cert.ReferenceIdeal.Gen.V_main_arg1 m' c).trans (h1.trans (Cert.KernelIdeal.Gen.V_main_arg1 m c).symm)
  have e2 : Cert.ReferenceIdeal.Value.Ws m' c = Cert.KernelIdeal.Value.Ws m c :=
    (Cert.ReferenceIdeal.Gen.V_main_arg2 m' c).trans (h2.trans (Cert.KernelIdeal.Gen.V_main_arg2 m c).symm)
  rw [row_eq m m' c h0, Cert.Quant.proj_agree (in_range m c hf _), e1, e2]

end Equal

end Cert.Values

end
-- ==== Proof.lean ====
module

public import proofs.«01_k».proof.Defs
public import proofs.«01_k».proof.Proof.Gen.KernelIdeal.Value
public import proofs.«01_k».proof.Proof.RefRun
public import proofs.«01_k».proof.Proof.Values
public import Idealize.ShloMosaic.Lib.Bf16Pair
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c => Cert.Values.finite_apply _ _ _ (hpre c)
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N, Cert.KernelIdeal.Value.run_blocks m g, ?_⟩
  refine (θ_run Cert.ReferenceIdeal.defs _ _).mono (fun r h c => ?_) (Cert.ReferenceIdeal.Value.run_blocks m' g')
  obtain ⟨h0, h1, h2⟩ := hargs c
  obtain ⟨e0, e1, e2, e3⟩ := h c
  exact ⟨e0.trans (Cert.Values.outs_agree m m' c (hf c) h0 h1 h2), e1.trans (Cert.Values.codes_agree m m' c (hf c) h0),
    e2.trans (Cert.Values.scales_agree m m' c (hf c) h0), e3⟩

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    ⟨IdealRules.bf16_pair.packStatement _, IdealRules.bf16_pair.statement _ _⟩, algebraic⟩

end Cert.Proof

end
